-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_indices_in_vocabulary [hPre_indices_in_vocabulary : Cert.Pre_indices_in_vocabulary.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_vocabulary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_in_vocabulary [hPre_indices_in_vocabulary : Cert.Pre_indices_in_vocabulary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_vocabulary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_indices_in_vocabulary [hKernelIdeal : Cert.KernelIdeal.Facts] [hPre_indices_in_vocabulary : Cert.Pre_indices_in_vocabulary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_indices_in_vocabulary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_indices_in_vocabulary [hReferenceIdeal : Cert.ReferenceIdeal.Facts] [hPre_indices_in_vocabulary : Cert.Pre_indices_in_vocabulary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_in_vocabulary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_indices_in_vocabulary [hKernelIdeal : Cert.KernelIdeal.Facts] [hReferenceIdeal : Cert.ReferenceIdeal.Facts] [hPre_indices_in_vocabulary : Cert.Pre_indices_in_vocabulary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_indices_in_vocabulary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v285)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v285) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_indices_in_vocabulary : Cert.Pre_indices_in_vocabulary.Facts),
    quiescent_Kernel (hKernel := hKernel)
    ∧ quiescent_KernelIdeal (hKernelIdeal := hKernelIdeal)
    ∧ quiescent_KernelIdeal_pre_indices_in_vocabulary (hKernelIdeal := hKernelIdeal) (hPre_indices_in_vocabulary := hPre_indices_in_vocabulary)
    ∧ quiescent_ReferenceIdeal (hReferenceIdeal := hReferenceIdeal)
    ∧ quiescent_ReferenceIdeal_pre_indices_in_vocabulary (hReferenceIdeal := hReferenceIdeal) (hPre_indices_in_vocabulary := hPre_indices_in_vocabulary)
    ∧ preserves_Kernel_KernelIdeal
    ∧ algebraic_KernelIdeal_ReferenceIdeal_pre_indices_in_vocabulary (hKernelIdeal := hKernelIdeal) (hReferenceIdeal := hReferenceIdeal) (hPre_indices_in_vocabulary := hPre_indices_in_vocabulary)
-- ==== Pre_indices_in_vocabulary.lean ====
abbrev S16x512x20 : Shape := ⟨3, ![16, 512, 20]⟩
abbrev S16x512 : Shape := ⟨2, ![16, 512]⟩
abbrev S262x64 : Shape := ⟨2, ![262, 64]⟩
abbrev S256x64 : Shape := ⟨2, ![256, 64]⟩
abbrev S256 : Shape := ⟨1, ![256]⟩
abbrev S2x1x64 : Shape := ⟨3, ![2, 1, 64]⟩
abbrev S1x128 : Shape := ⟨2, ![1, 128]⟩
abbrev S_ : Shape := ⟨0, ![]⟩

class Facts : Prop where
  bcast_S_S16x512x20 : S_.BroadcastsInDim S16x512x20 (![] : Fin 0 → Fin S16x512x20.rank)

variable [Facts]

def fn {F : FTy → Type} [FloatOps F] (main_arg0 : IVec S16x512x20 32) (main_arg1 : IVec S16x512 32) (main_arg2 : FVec F S262x64 .f32) (main_arg3 : FVec F S256x64 .f32) (main_arg4 : FVec F S256x64 .f32) (main_arg5 : FVec F S256 .f32) (main_arg6 : FVec F S256 .f32) (main_arg7 : FVec F S256x64 .f32) (main_arg8 : FVec F S256x64 .f32) (main_arg9 : FVec F S256 .f32) (main_arg10 : FVec F S256 .f32) (main_arg11 : FVec F S2x1x64 .f32) (main_arg12 : FVec F S2x1x64 .f32) (main_arg13 : FVec F S1x128 .f32) : IVec S16x512x20 1 :=
  let main_c : IVec S_ 32 := constantI S_ 32 0#32
  let main_v0 : IVec S16x512x20 32 := broadcastInDim S16x512x20 ![] bcast_S_S16x512x20 main_c
  let main_v1 : IVec S16x512x20 1 := cmpi .sge main_arg0 main_v0
  let main_c_0 : IVec S_ 32 := constantI S_ 32 262#32
  let main_v2 : IVec S16x512x20 32 := broadcastInDim S16x512x20 ![] bcast_S_S16x512x20 main_c_0
  let main_v3 : IVec S16x512x20 1 := cmpi .slt main_arg0 main_v2
  let main_v4 : IVec S16x512x20 1 := andi main_v1 main_v3
  main_v4
-- ==== Kernel.lean ====
abbrev S16x512x20 : Shape := ⟨3, ![16, 512, 20]⟩
abbrev S16x512 : Shape := ⟨2, ![16, 512]⟩
abbrev S262x64 : Shape := ⟨2, ![262, 64]⟩
abbrev S256x64 : Shape := ⟨2, ![256, 64]⟩
abbrev S256 : Shape := ⟨1, ![256]⟩
abbrev S2x1x64 : Shape := ⟨3, ![2, 1, 64]⟩
abbrev S1x128 : Shape := ⟨2, ![1, 128]⟩
abbrev S128x128 : Shape := ⟨2, ![128, 128]⟩
abbrev S8192x20 : Shape := ⟨2, ![8192, 20]⟩
abbrev S8192 : Shape := ⟨1, ![8192]⟩
abbrev S8x2x512x20 : Shape := ⟨4, ![8, 2, 512, 20]⟩
abbrev S8x2x512x1 : Shape := ⟨4, ![8, 2, 512, 1]⟩
abbrev S8x1x512x20 : Shape := ⟨4, ![8, 1, 512, 20]⟩
abbrev S8x512x20 : Shape := ⟨3, ![8, 512, 20]⟩
abbrev S8x1x512x1 : Shape := ⟨4, ![8, 1, 512, 1]⟩
abbrev S8x512x1 : Shape := ⟨3, ![8, 512, 1]⟩
abbrev S_ : Shape := ⟨0, ![]⟩
abbrev S8x512x22 : Shape := ⟨3, ![8, 512, 22]⟩
abbrev S8x512x64 : Shape := ⟨3, ![8, 512, 64]⟩
abbrev S4096x64 : Shape := ⟨2, ![4096, 64]⟩
abbrev S264x64 : Shape := ⟨2, ![264, 64]⟩
abbrev S1 : Shape := ⟨1, ![1]⟩
abbrev S528x128 : Shape := ⟨2, ![528, 128]⟩
abbrev S2 : Shape := ⟨1, ![2]⟩
abbrev S64 : Shape := ⟨1, ![64]⟩
abbrev S64x256 : Shape := ⟨2, ![64, 256]⟩
abbrev S128x256 : Shape := ⟨2, ![128, 256]⟩
abbrev S1x256 : Shape := ⟨2, ![1, 256]⟩
abbrev S256x512 : Shape := ⟨2, ![256, 512]⟩
abbrev S128x64 : Shape := ⟨2, ![128, 64]⟩
abbrev S64x64 : Shape := ⟨2, ![64, 64]⟩
abbrev S128 : Shape := ⟨1, ![128]⟩
abbrev S512 : Shape := ⟨1, ![512]⟩
abbrev S1x512 : Shape := ⟨2, ![1, 512]⟩
abbrev S2x512 : Shape := ⟨2, ![2, 512]⟩
abbrev S1x64 : Shape := ⟨2, ![1, 64]⟩
abbrev S2x128 : Shape := ⟨2, ![2, 128]⟩
abbrev S128x1 : Shape := ⟨2, ![128, 1]⟩
abbrev S256x128 : Shape := ⟨2, ![256, 128]⟩
abbrev S1x1x64 : Shape := ⟨3, ![1, 1, 64]⟩
abbrev S4x128 : Shape := ⟨2, ![4, 128]⟩
abbrev S8192x128 : Shape := ⟨2, ![8192, 128]⟩
abbrev S512x64 : Shape := ⟨2, ![512, 64]⟩
abbrev S1024x128 : Shape := ⟨2, ![1024, 128]⟩
abbrev S20x512x128 : Shape := ⟨3, ![20, 512, 128]⟩
abbrev S512x528 : Shape := ⟨2, ![512, 528]⟩
abbrev S512x1 : Shape := ⟨2, ![512, 1]⟩
abbrev S512x128 : Shape := ⟨2, ![512, 128]⟩
abbrev S1x512x128 : Shape := ⟨3, ![1, 512, 128]⟩
abbrev S512x256 : Shape := ⟨2, ![512, 256]⟩
abbrev S512x512 : Shape := ⟨2, ![512, 512]⟩

abbrev nBuf : Space → Nat
  | .hbm => 380
  | .vmem => 12
  | .smem => 0
  | _ => 0

abbrev hbmTy0_0 (i : Nat) : BufTy := match i % 128 with
  | 0 => ⟨S16x512x20, .i32⟩
  | 1 => ⟨S16x512, .i32⟩
  | 2 => ⟨S262x64, .f32⟩
  | 3 => ⟨S256x64, .f32⟩
  | 4 => ⟨S256x64, .f32⟩
  | 5 => ⟨S256, .f32⟩
  | 6 => ⟨S256, .f32⟩
  | 7 => ⟨S256x64, .f32⟩
  | 8 => ⟨S256x64, .f32⟩
  | 9 => ⟨S256, .f32⟩
  | 10 => ⟨S256, .f32⟩
  | 11 => ⟨S2x1x64, .f32⟩
  | 12 => ⟨S2x1x64, .f32⟩
  | 13 => ⟨S1x128, .f32⟩
  | 14 => ⟨S128x128, .f32⟩
  | 15 => ⟨S8192x20, .i32⟩
  | 16 => ⟨S8192, .i32⟩
  | 17 => ⟨S8x2x512x20, .i32⟩
  | 18 => ⟨S8x2x512x1, .i32⟩
  | 19 => ⟨S8x1x512x20, .i32⟩
  | 20 => ⟨S8x512x20, .i32⟩
  | 21 => ⟨S8x1x512x20, .i32⟩
  | 22 => ⟨S8x512x20, .i32⟩
  | 23 => ⟨S8x1x512x1, .i32⟩
  | 24 => ⟨S8x512x1, .i32⟩
  | 25 => ⟨S8x1x512x1, .i32⟩
  | 26 => ⟨S8x512x1, .i32⟩
  | 27 => ⟨S_, .i32⟩
  | 28 => ⟨S8x512x22, .i32⟩
  | 29 => ⟨S8x512x64, .i32⟩
  | 30 => ⟨S4096x64, .i32⟩
  | 31 => ⟨S_, .f32⟩
  | 32 => ⟨S264x64, .f32⟩
  | 33 => ⟨S_, .i32⟩
  | 34 => ⟨S1, .i32⟩
  | 35 => ⟨S264x64, .f32⟩
  | 36 => ⟨S_, .f32⟩
  | 37 => ⟨S528x128, .f32⟩
  | 38 => ⟨S_, .i32⟩
  | 39 => ⟨S1, .i32⟩
  | 40 => ⟨S_, .i32⟩
  | 41 => ⟨S1, .i32⟩
  | 42 => ⟨S2, .i32⟩
  | 43 => ⟨S528x128, .f32⟩
  | 44 => ⟨S_, .i32⟩
  | 45 => ⟨S1, .i32⟩
  | 46 => ⟨S_, .i32⟩
  | 47 => ⟨S1, .i32⟩
  | 48 => ⟨S2, .i32⟩
  | 49 => ⟨S528x128, .f32⟩
  | 50 => ⟨S528x128, .bf16⟩
  | 51 => ⟨S_, .f32⟩
  | 52 => ⟨S64, .f32⟩
  | 53 => ⟨S_, .f32⟩
  | 54 => ⟨S64, .f32⟩
  | 55 => ⟨S_, .f32⟩
  | 56 => ⟨S64, .f32⟩
  | 57 => ⟨S_, .f32⟩
  | 58 => ⟨S64, .f32⟩
  | 59 => ⟨S64, .f32⟩
  | 60 => ⟨S64, .f32⟩
  | 61 => ⟨S64, .f32⟩
  | 62 => ⟨S256, .f32⟩
  | 63 => ⟨S64x256, .f32⟩
  | 64 => ⟨S64x256, .f32⟩
  | 65 => ⟨S128x256, .f32⟩
  | 66 => ⟨S1x256, .f32⟩
  | 67 => ⟨S128x256, .f32⟩
  | 68 => ⟨S128x256, .f32⟩
  | 69 => ⟨S64x256, .f32⟩
  | 70 => ⟨S64x256, .f32⟩
  | 71 => ⟨S128x256, .f32⟩
  | 72 => ⟨S1x256, .f32⟩
  | 73 => ⟨S128x256, .f32⟩
  | 74 => ⟨S128x256, .f32⟩
  | 75 => ⟨S_, .f32⟩
  | 76 => ⟨S256x512, .f32⟩
  | 77 => ⟨S128x64, .f32⟩
  | 78 => ⟨S64x64, .f32⟩
  | 79 => ⟨S_, .i32⟩
  | 80 => ⟨S1, .i32⟩
  | 81 => ⟨S_, .i32⟩
  | 82 => ⟨S1, .i32⟩
  | 83 => ⟨S2, .i32⟩
  | 84 => ⟨S256x512, .f32⟩
  | 85 => ⟨S64x64, .f32⟩
  | 86 => ⟨S_, .i32⟩
  | 87 => ⟨S1, .i32⟩
  | 88 => ⟨S_, .i32⟩
  | 89 => ⟨S1, .i32⟩
  | 90 => ⟨S2, .i32⟩
  | 91 => ⟨S256x512, .f32⟩
  | 92 => ⟨S64x64, .f32⟩
  | 93 => ⟨S_, .i32⟩
  | 94 => ⟨S1, .i32⟩
  | 95 => ⟨S_, .i32⟩
  | 96 => ⟨S1, .i32⟩
  | 97 => ⟨S2, .i32⟩
  | 98 => ⟨S256x512, .f32⟩
  | 99 => ⟨S64x64, .f32⟩
  | 100 => ⟨S_, .i32⟩
  | 101 => ⟨S1, .i32⟩
  | 102 => ⟨S_, .i32⟩
  | 103 => ⟨S1, .i32⟩
  | 104 => ⟨S2, .i32⟩
  | 105 => ⟨S256x512, .f32⟩
  | 106 => ⟨S128x64, .f32⟩
  | 107 => ⟨S64x64, .f32⟩
  | 108 => ⟨S_, .i32⟩
  | 109 => ⟨S1, .i32⟩
  | 110 => ⟨S_, .i32⟩
  | 111 => ⟨S1, .i32⟩
  | 112 => ⟨S2, .i32⟩
  | 113 => ⟨S256x512, .f32⟩
  | 114 => ⟨S64x64, .f32⟩
  | 115 => ⟨S_, .i32⟩
  | 116 => ⟨S1, .i32⟩
  | 117 => ⟨S_, .i32⟩
  | 118 => ⟨S1, .i32⟩
  | 119 => ⟨S2, .i32⟩
  | 120 => ⟨S256x512, .f32⟩
  | 121 => ⟨S64x64, .f32⟩
  | 122 => ⟨S_, .i32⟩
  | 123 => ⟨S1, .i32⟩
  | 124 => ⟨S_, .i32⟩
  | 125 => ⟨S1, .i32⟩
  | 126 => ⟨S2, .i32⟩
  | 127 => ⟨S256x512, .f32⟩
  | _ => ⟨S16x512x20, .i32⟩

abbrev hbmTy0_1 (i : Nat) : BufTy := match i % 128 with
  | 0 => ⟨S64x64, .f32⟩
  | 1 => ⟨S_, .i32⟩
  | 2 => ⟨S1, .i32⟩
  | 3 => ⟨S_, .i32⟩
  | 4 => ⟨S1, .i32⟩
  | 5 => ⟨S2, .i32⟩
  | 6 => ⟨S256x512, .f32⟩
  | 7 => ⟨S128x64, .f32⟩
  | 8 => ⟨S64x64, .f32⟩
  | 9 => ⟨S_, .i32⟩
  | 10 => ⟨S1, .i32⟩
  | 11 => ⟨S_, .i32⟩
  | 12 => ⟨S1, .i32⟩
  | 13 => ⟨S2, .i32⟩
  | 14 => ⟨S256x512, .f32⟩
  | 15 => ⟨S64x64, .f32⟩
  | 16 => ⟨S_, .i32⟩
  | 17 => ⟨S1, .i32⟩
  | 18 => ⟨S_, .i32⟩
  | 19 => ⟨S1, .i32⟩
  | 20 => ⟨S2, .i32⟩
  | 21 => ⟨S256x512, .f32⟩
  | 22 => ⟨S64x64, .f32⟩
  | 23 => ⟨S_, .i32⟩
  | 24 => ⟨S1, .i32⟩
  | 25 => ⟨S_, .i32⟩
  | 26 => ⟨S1, .i32⟩
  | 27 => ⟨S2, .i32⟩
  | 28 => ⟨S256x512, .f32⟩
  | 29 => ⟨S64x64, .f32⟩
  | 30 => ⟨S_, .i32⟩
  | 31 => ⟨S1, .i32⟩
  | 32 => ⟨S_, .i32⟩
  | 33 => ⟨S1, .i32⟩
  | 34 => ⟨S2, .i32⟩
  | 35 => ⟨S256x512, .f32⟩
  | 36 => ⟨S128x64, .f32⟩
  | 37 => ⟨S64x64, .f32⟩
  | 38 => ⟨S_, .i32⟩
  | 39 => ⟨S1, .i32⟩
  | 40 => ⟨S_, .i32⟩
  | 41 => ⟨S1, .i32⟩
  | 42 => ⟨S2, .i32⟩
  | 43 => ⟨S256x512, .f32⟩
  | 44 => ⟨S64x64, .f32⟩
  | 45 => ⟨S_, .i32⟩
  | 46 => ⟨S1, .i32⟩
  | 47 => ⟨S_, .i32⟩
  | 48 => ⟨S1, .i32⟩
  | 49 => ⟨S2, .i32⟩
  | 50 => ⟨S256x512, .f32⟩
  | 51 => ⟨S64x64, .f32⟩
  | 52 => ⟨S_, .i32⟩
  | 53 => ⟨S1, .i32⟩
  | 54 => ⟨S_, .i32⟩
  | 55 => ⟨S1, .i32⟩
  | 56 => ⟨S2, .i32⟩
  | 57 => ⟨S256x512, .f32⟩
  | 58 => ⟨S64x64, .f32⟩
  | 59 => ⟨S_, .i32⟩
  | 60 => ⟨S1, .i32⟩
  | 61 => ⟨S_, .i32⟩
  | 62 => ⟨S1, .i32⟩
  | 63 => ⟨S2, .i32⟩
  | 64 => ⟨S256x512, .f32⟩
  | 65 => ⟨S256x512, .bf16⟩
  | 66 => ⟨S_, .f32⟩
  | 67 => ⟨S256x512, .f32⟩
  | 68 => ⟨S128x64, .f32⟩
  | 69 => ⟨S64x64, .f32⟩
  | 70 => ⟨S_, .i32⟩
  | 71 => ⟨S1, .i32⟩
  | 72 => ⟨S_, .i32⟩
  | 73 => ⟨S1, .i32⟩
  | 74 => ⟨S2, .i32⟩
  | 75 => ⟨S256x512, .f32⟩
  | 76 => ⟨S64x64, .f32⟩
  | 77 => ⟨S_, .i32⟩
  | 78 => ⟨S1, .i32⟩
  | 79 => ⟨S_, .i32⟩
  | 80 => ⟨S1, .i32⟩
  | 81 => ⟨S2, .i32⟩
  | 82 => ⟨S256x512, .f32⟩
  | 83 => ⟨S64x64, .f32⟩
  | 84 => ⟨S_, .i32⟩
  | 85 => ⟨S1, .i32⟩
  | 86 => ⟨S_, .i32⟩
  | 87 => ⟨S1, .i32⟩
  | 88 => ⟨S2, .i32⟩
  | 89 => ⟨S256x512, .f32⟩
  | 90 => ⟨S64x64, .f32⟩
  | 91 => ⟨S_, .i32⟩
  | 92 => ⟨S1, .i32⟩
  | 93 => ⟨S_, .i32⟩
  | 94 => ⟨S1, .i32⟩
  | 95 => ⟨S2, .i32⟩
  | 96 => ⟨S256x512, .f32⟩
  | 97 => ⟨S128x64, .f32⟩
  | 98 => ⟨S64x64, .f32⟩
  | 99 => ⟨S_, .i32⟩
  | 100 => ⟨S1, .i32⟩
  | 101 => ⟨S_, .i32⟩
  | 102 => ⟨S1, .i32⟩
  | 103 => ⟨S2, .i32⟩
  | 104 => ⟨S256x512, .f32⟩
  | 105 => ⟨S64x64, .f32⟩
  | 106 => ⟨S_, .i32⟩
  | 107 => ⟨S1, .i32⟩
  | 108 => ⟨S_, .i32⟩
  | 109 => ⟨S1, .i32⟩
  | 110 => ⟨S2, .i32⟩
  | 111 => ⟨S256x512, .f32⟩
  | 112 => ⟨S64x64, .f32⟩
  | 113 => ⟨S_, .i32⟩
  | 114 => ⟨S1, .i32⟩
  | 115 => ⟨S_, .i32⟩
  | 116 => ⟨S1, .i32⟩
  | 117 => ⟨S2, .i32⟩
  | 118 => ⟨S256x512, .f32⟩
  | 119 => ⟨S64x64, .f32⟩
  | 120 => ⟨S_, .i32⟩
  | 121 => ⟨S1, .i32⟩
  | 122 => ⟨S_, .i32⟩
  | 123 => ⟨S1, .i32⟩
  | 124 => ⟨S2, .i32⟩
  | 125 => ⟨S256x512, .f32⟩
  | 126 => ⟨S128x64, .f32⟩
  | 127 => ⟨S64x64, .f32⟩
  | _ => ⟨S16x512x20, .i32⟩

abbrev hbmTy0_2 (i : Nat) : BufTy := match i % 128 with
  | 0 => ⟨S_, .i32⟩
  | 1 => ⟨S1, .i32⟩
  | 2 => ⟨S_, .i32⟩
  | 3 => ⟨S1, .i32⟩
  | 4 => ⟨S2, .i32⟩
  | 5 => ⟨S256x512, .f32⟩
  | 6 => ⟨S64x64, .f32⟩
  | 7 => ⟨S_, .i32⟩
  | 8 => ⟨S1, .i32⟩
  | 9 => ⟨S_, .i32⟩
  | 10 => ⟨S1, .i32⟩
  | 11 => ⟨S2, .i32⟩
  | 12 => ⟨S256x512, .f32⟩
  | 13 => ⟨S64x64, .f32⟩
  | 14 => ⟨S_, .i32⟩
  | 15 => ⟨S1, .i32⟩
  | 16 => ⟨S_, .i32⟩
  | 17 => ⟨S1, .i32⟩
  | 18 => ⟨S2, .i32⟩
  | 19 => ⟨S256x512, .f32⟩
  | 20 => ⟨S64x64, .f32⟩
  | 21 => ⟨S_, .i32⟩
  | 22 => ⟨S1, .i32⟩
  | 23 => ⟨S_, .i32⟩
  | 24 => ⟨S1, .i32⟩
  | 25 => ⟨S2, .i32⟩
  | 26 => ⟨S256x512, .f32⟩
  | 27 => ⟨S128x64, .f32⟩
  | 28 => ⟨S64x64, .f32⟩
  | 29 => ⟨S_, .i32⟩
  | 30 => ⟨S1, .i32⟩
  | 31 => ⟨S_, .i32⟩
  | 32 => ⟨S1, .i32⟩
  | 33 => ⟨S2, .i32⟩
  | 34 => ⟨S256x512, .f32⟩
  | 35 => ⟨S64x64, .f32⟩
  | 36 => ⟨S_, .i32⟩
  | 37 => ⟨S1, .i32⟩
  | 38 => ⟨S_, .i32⟩
  | 39 => ⟨S1, .i32⟩
  | 40 => ⟨S2, .i32⟩
  | 41 => ⟨S256x512, .f32⟩
  | 42 => ⟨S64x64, .f32⟩
  | 43 => ⟨S_, .i32⟩
  | 44 => ⟨S1, .i32⟩
  | 45 => ⟨S_, .i32⟩
  | 46 => ⟨S1, .i32⟩
  | 47 => ⟨S2, .i32⟩
  | 48 => ⟨S256x512, .f32⟩
  | 49 => ⟨S64x64, .f32⟩
  | 50 => ⟨S_, .i32⟩
  | 51 => ⟨S1, .i32⟩
  | 52 => ⟨S_, .i32⟩
  | 53 => ⟨S1, .i32⟩
  | 54 => ⟨S2, .i32⟩
  | 55 => ⟨S256x512, .f32⟩
  | 56 => ⟨S256x512, .bf16⟩
  | 57 => ⟨S256, .f32⟩
  | 58 => ⟨S256, .f32⟩
  | 59 => ⟨S64, .f32⟩
  | 60 => ⟨S128, .f32⟩
  | 61 => ⟨S64, .f32⟩
  | 62 => ⟨S128, .f32⟩
  | 63 => ⟨S64, .f32⟩
  | 64 => ⟨S128, .f32⟩
  | 65 => ⟨S64, .f32⟩
  | 66 => ⟨S128, .f32⟩
  | 67 => ⟨S512, .f32⟩
  | 68 => ⟨S256, .f32⟩
  | 69 => ⟨S256, .f32⟩
  | 70 => ⟨S64, .f32⟩
  | 71 => ⟨S128, .f32⟩
  | 72 => ⟨S64, .f32⟩
  | 73 => ⟨S128, .f32⟩
  | 74 => ⟨S64, .f32⟩
  | 75 => ⟨S128, .f32⟩
  | 76 => ⟨S64, .f32⟩
  | 77 => ⟨S128, .f32⟩
  | 78 => ⟨S512, .f32⟩
  | 79 => ⟨S1x512, .f32⟩
  | 80 => ⟨S1x512, .f32⟩
  | 81 => ⟨S2x512, .f32⟩
  | 82 => ⟨S1x64, .f32⟩
  | 83 => ⟨S64, .f32⟩
  | 84 => ⟨S128, .f32⟩
  | 85 => ⟨S1x64, .f32⟩
  | 86 => ⟨S64, .f32⟩
  | 87 => ⟨S128, .f32⟩
  | 88 => ⟨S1x128, .f32⟩
  | 89 => ⟨S1x128, .f32⟩
  | 90 => ⟨S2x128, .f32⟩
  | 91 => ⟨S_, .f32⟩
  | 92 => ⟨S2x128, .f32⟩
  | 93 => ⟨S2x128, .f32⟩
  | 94 => ⟨S1x128, .f32⟩
  | 95 => ⟨S128, .f32⟩
  | 96 => ⟨S128x1, .f32⟩
  | 97 => ⟨S128x128, .f32⟩
  | 98 => ⟨S128x128, .f32⟩
  | 99 => ⟨S1x128, .f32⟩
  | 100 => ⟨S128, .f32⟩
  | 101 => ⟨S128x1, .f32⟩
  | 102 => ⟨S128x128, .f32⟩
  | 103 => ⟨S128x128, .f32⟩
  | 104 => ⟨S256x128, .f32⟩
  | 105 => ⟨S256x128, .bf16⟩
  | 106 => ⟨S1x1x64, .f32⟩
  | 107 => ⟨S64, .f32⟩
  | 108 => ⟨S128, .f32⟩
  | 109 => ⟨S1x1x64, .f32⟩
  | 110 => ⟨S64, .f32⟩
  | 111 => ⟨S128, .f32⟩
  | 112 => ⟨S1x1x64, .f32⟩
  | 113 => ⟨S64, .f32⟩
  | 114 => ⟨S128, .f32⟩
  | 115 => ⟨S1x1x64, .f32⟩
  | 116 => ⟨S64, .f32⟩
  | 117 => ⟨S128, .f32⟩
  | 118 => ⟨S1x128, .f32⟩
  | 119 => ⟨S1x128, .f32⟩
  | 120 => ⟨S1x128, .f32⟩
  | 121 => ⟨S1x128, .f32⟩
  | 122 => ⟨S4x128, .f32⟩
  | 123 => ⟨S8192x128, .f32⟩
  | _ => ⟨S16x512x20, .i32⟩

abbrev hbmTy (i : Nat) : BufTy := match i / 128 with
  | 0 => hbmTy0_0 i
  | 1 => hbmTy0_1 i
  | 2 => hbmTy0_2 i
  | _ => ⟨S16x512x20, .i32⟩

abbrev bufTy : (tb : Table) → Fin (tcTables nBuf tb) → BufTy
  | .hbm, ⟨i, _⟩ => hbmTy i
  | .local _ .vmem, ⟨0, _⟩ => ⟨S512x64, .i32⟩
  | .local _ .vmem, ⟨1, _⟩ => ⟨S512x64, .i32⟩
  | .local _ .vmem, ⟨2, _⟩ => ⟨S528x128, .bf16⟩
  | .local _ .vmem, ⟨3, _⟩ => ⟨S256x512, .bf16⟩
  | .local _ .vmem, ⟨4, _⟩ => ⟨S256x512, .bf16⟩
  | .local _ .vmem, ⟨5, _⟩ => ⟨S2x512, .f32⟩
  | .local _ .vmem, ⟨6, _⟩ => ⟨S256x128, .bf16⟩
  | .local _ .vmem, ⟨7, _⟩ => ⟨S4x128, .f32⟩
  | .local _ .vmem, ⟨8, _⟩ => ⟨S1024x128, .f32⟩
  | .local _ .vmem, ⟨9, _⟩ => ⟨S1024x128, .f32⟩
  | .local _ .vmem, ⟨10, _⟩ => ⟨S20x512x128, .bf16⟩
  | .local _ .vmem, ⟨11, _⟩ => ⟨S20x512x128, .f32⟩
  | _, _ => ⟨S16x512x20, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_0 : Ref sig .tc := ⟨.hbm, 31, rfl⟩
abbrev main_v15 : Ref sig .tc := ⟨.hbm, 32, rfl⟩
abbrev main_c_1 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_c_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_5 : Ref sig .tc := ⟨.hbm, 44, rfl⟩
abbrev main_v23 : Ref sig .tc := ⟨.hbm, 45, rfl⟩
abbrev main_c_6 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_7 : Ref sig .tc := ⟨.hbm, 51, rfl⟩
abbrev main_v28 : Ref sig .tc := ⟨.hbm, 52, rfl⟩
abbrev main_cst_8 : Ref sig .tc := ⟨.hbm, 53, rfl⟩
abbrev main_v29 : Ref sig .tc := ⟨.hbm, 54, rfl⟩
abbrev main_cst_9 : Ref sig .tc := ⟨.hbm, 55, rfl⟩
abbrev main_v30 : Ref sig .tc := ⟨.hbm, 56, rfl⟩
abbrev main_cst_10 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_11 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_12 : Ref sig .tc := ⟨.hbm, 79, rfl⟩
abbrev main_v51 : Ref sig .tc := ⟨.hbm, 80, rfl⟩
abbrev main_c_13 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_14 : Ref sig .tc := ⟨.hbm, 86, rfl⟩
abbrev main_v56 : Ref sig .tc := ⟨.hbm, 87, rfl⟩
abbrev main_c_15 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_c_16 : Ref sig .tc := ⟨.hbm, 93, rfl⟩
abbrev main_v61 : Ref sig .tc := ⟨.hbm, 94, rfl⟩
abbrev main_c_17 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_c_18 : Ref sig .tc := ⟨.hbm, 100, rfl⟩
abbrev main_v66 : Ref sig .tc := ⟨.hbm, 101, rfl⟩
abbrev main_c_19 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_c_20 : Ref sig .tc := ⟨.hbm, 108, rfl⟩
abbrev main_v72 : Ref sig .tc := ⟨.hbm, 109, rfl⟩
abbrev main_c_21 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_c_22 : Ref sig .tc := ⟨.hbm, 115, rfl⟩
abbrev main_v77 : Ref sig .tc := ⟨.hbm, 116, rfl⟩
abbrev main_c_23 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_c_24 : Ref sig .tc := ⟨.hbm, 122, rfl⟩
abbrev main_v82 : Ref sig .tc := ⟨.hbm, 123, rfl⟩
abbrev main_c_25 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_c_26 : Ref sig .tc := ⟨.hbm, 129, rfl⟩
abbrev main_v87 : Ref sig .tc := ⟨.hbm, 130, rfl⟩
abbrev main_c_27 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_c_28 : Ref sig .tc := ⟨.hbm, 137, rfl⟩
abbrev main_v93 : Ref sig .tc := ⟨.hbm, 138, rfl⟩
abbrev main_c_29 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_c_30 : Ref sig .tc := ⟨.hbm, 144, rfl⟩
abbrev main_v98 : Ref sig .tc := ⟨.hbm, 145, rfl⟩
abbrev main_c_31 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_c_32 : Ref sig .tc := ⟨.hbm, 151, rfl⟩
abbrev main_v103 : Ref sig .tc := ⟨.hbm, 152, rfl⟩
abbrev main_c_33 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_c_34 : Ref sig .tc := ⟨.hbm, 158, rfl⟩
abbrev main_v108 : Ref sig .tc := ⟨.hbm, 159, rfl⟩
abbrev main_c_35 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_c_36 : Ref sig .tc := ⟨.hbm, 166, rfl⟩
abbrev main_v114 : Ref sig .tc := ⟨.hbm, 167, rfl⟩
abbrev main_c_37 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_c_38 : Ref sig .tc := ⟨.hbm, 173, rfl⟩
abbrev main_v119 : Ref sig .tc := ⟨.hbm, 174, rfl⟩
abbrev main_c_39 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_c_40 : Ref sig .tc := ⟨.hbm, 180, rfl⟩
abbrev main_v124 : Ref sig .tc := ⟨.hbm, 181, rfl⟩
abbrev main_c_41 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_c_42 : Ref sig .tc := ⟨.hbm, 187, rfl⟩
abbrev main_v129 : Ref sig .tc := ⟨.hbm, 188, rfl⟩
abbrev main_c_43 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_cst_44 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_c_45 : Ref sig .tc := ⟨.hbm, 198, rfl⟩
abbrev main_v137 : Ref sig .tc := ⟨.hbm, 199, rfl⟩
abbrev main_c_46 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_c_47 : Ref sig .tc := ⟨.hbm, 205, rfl⟩
abbrev main_v142 : Ref sig .tc := ⟨.hbm, 206, rfl⟩
abbrev main_c_48 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_c_49 : Ref sig .tc := ⟨.hbm, 212, rfl⟩
abbrev main_v147 : Ref sig .tc := ⟨.hbm, 213, rfl⟩
abbrev main_c_50 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_c_51 : Ref sig .tc := ⟨.hbm, 219, rfl⟩
abbrev main_v152 : Ref sig .tc := ⟨.hbm, 220, rfl⟩
abbrev main_c_52 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_c_53 : Ref sig .tc := ⟨.hbm, 227, rfl⟩
abbrev main_v158 : Ref sig .tc := ⟨.hbm, 228, rfl⟩
abbrev main_c_54 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_c_55 : Ref sig .tc := ⟨.hbm, 234, rfl⟩
abbrev main_v163 : Ref sig .tc := ⟨.hbm, 235, rfl⟩
abbrev main_c_56 : Ref sig .tc := ⟨.hbm, 236, rfl⟩
abbrev main_v164 : Ref sig .tc := ⟨.hbm, 237, rfl⟩
abbrev main_v165 : Ref sig .tc := ⟨.hbm, 238, rfl⟩
abbrev main_v166 : Ref sig .tc := ⟨.hbm, 239, rfl⟩
abbrev main_v167 : Ref sig .tc := ⟨.hbm, 240, rfl⟩
abbrev main_c_57 : Ref sig .tc := ⟨.hbm, 241, rfl⟩
abbrev main_v168 : Ref sig .tc := ⟨.hbm, 242, rfl⟩
abbrev main_c_58 : Ref sig .tc := ⟨.hbm, 243, rfl⟩
abbrev main_v169 : Ref sig .tc := ⟨.hbm, 244, rfl⟩
abbrev main_v170 : Ref sig .tc := ⟨.hbm, 245, rfl⟩
abbrev main_v171 : Ref sig .tc := ⟨.hbm, 246, rfl⟩
abbrev main_v172 : Ref sig .tc := ⟨.hbm, 247, rfl⟩
abbrev main_c_59 : Ref sig .tc := ⟨.hbm, 248, rfl⟩
abbrev main_v173 : Ref sig .tc := ⟨.hbm, 249, rfl⟩
abbrev main_c_60 : Ref sig .tc := ⟨.hbm, 250, rfl⟩
abbrev main_v174 : Ref sig .tc := ⟨.hbm, 251, rfl⟩
abbrev main_v175 : Ref sig .tc := ⟨.hbm, 252, rfl⟩
abbrev main_v176 : Ref sig .tc := ⟨.hbm, 253, rfl⟩
abbrev main_v177 : Ref sig .tc := ⟨.hbm, 254, rfl⟩
abbrev main_v178 : Ref sig .tc := ⟨.hbm, 255, rfl⟩
abbrev main_c_61 : Ref sig .tc := ⟨.hbm, 256, rfl⟩
abbrev main_v179 : Ref sig .tc := ⟨.hbm, 257, rfl⟩
abbrev main_c_62 : Ref sig .tc := ⟨.hbm, 258, rfl⟩
abbrev main_v180 : Ref sig .tc := ⟨.hbm, 259, rfl⟩
abbrev main_v181 : Ref sig .tc := ⟨.hbm, 260, rfl⟩
abbrev main_v182 : Ref sig .tc := ⟨.hbm, 261, rfl⟩
abbrev main_v183 : Ref sig .tc := ⟨.hbm, 262, rfl⟩
abbrev main_c_63 : Ref sig .tc := ⟨.hbm, 263, rfl⟩
abbrev main_v184 : Ref sig .tc := ⟨.hbm, 264, rfl⟩
abbrev main_c_64 : Ref sig .tc := ⟨.hbm, 265, rfl⟩
abbrev main_v185 : Ref sig .tc := ⟨.hbm, 266, rfl⟩
abbrev main_v186 : Ref sig .tc := ⟨.hbm, 267, rfl⟩
abbrev main_v187 : Ref sig .tc := ⟨.hbm, 268, rfl⟩
abbrev main_v188 : Ref sig .tc := ⟨.hbm, 269, rfl⟩
abbrev main_c_65 : Ref sig .tc := ⟨.hbm, 270, rfl⟩
abbrev main_v189 : Ref sig .tc := ⟨.hbm, 271, rfl⟩
abbrev main_c_66 : Ref sig .tc := ⟨.hbm, 272, rfl⟩
abbrev main_v190 : Ref sig .tc := ⟨.hbm, 273, rfl⟩
abbrev main_v191 : Ref sig .tc := ⟨.hbm, 274, rfl⟩
abbrev main_v192 : Ref sig .tc := ⟨.hbm, 275, rfl⟩
abbrev main_v193 : Ref sig .tc := ⟨.hbm, 276, rfl⟩
abbrev main_c_67 : Ref sig .tc := ⟨.hbm, 277, rfl⟩
abbrev main_v194 : Ref sig .tc := ⟨.hbm, 278, rfl⟩
abbrev main_c_68 : Ref sig .tc := ⟨.hbm, 279, rfl⟩
abbrev main_v195 : Ref sig .tc := ⟨.hbm, 280, rfl⟩
abbrev main_v196 : Ref sig .tc := ⟨.hbm, 281, rfl⟩
abbrev main_v197 : Ref sig .tc := ⟨.hbm, 282, rfl⟩
abbrev main_v198 : Ref sig .tc := ⟨.hbm, 283, rfl⟩
abbrev main_v199 : Ref sig .tc := ⟨.hbm, 284, rfl⟩
abbrev main_c_69 : Ref sig .tc := ⟨.hbm, 285, rfl⟩
abbrev main_v200 : Ref sig .tc := ⟨.hbm, 286, rfl⟩
abbrev main_c_70 : Ref sig .tc := ⟨.hbm, 287, rfl⟩
abbrev main_v201 : Ref sig .tc := ⟨.hbm, 288, rfl⟩
abbrev main_v202 : Ref sig .tc := ⟨.hbm, 289, rfl⟩
abbrev main_v203 : Ref sig .tc := ⟨.hbm, 290, rfl⟩
abbrev main_v204 : Ref sig .tc := ⟨.hbm, 291, rfl⟩
abbrev main_c_71 : Ref sig .tc := ⟨.hbm, 292, rfl⟩
abbrev main_v205 : Ref sig .tc := ⟨.hbm, 293, rfl⟩
abbrev main_c_72 : Ref sig .tc := ⟨.hbm, 294, rfl⟩
abbrev main_v206 : Ref sig .tc := ⟨.hbm, 295, rfl⟩
abbrev main_v207 : Ref sig .tc := ⟨.hbm, 296, rfl⟩
abbrev main_v208 : Ref sig .tc := ⟨.hbm, 297, rfl⟩
abbrev main_v209 : Ref sig .tc := ⟨.hbm, 298, rfl⟩
abbrev main_c_73 : Ref sig .tc := ⟨.hbm, 299, rfl⟩
abbrev main_v210 : Ref sig .tc := ⟨.hbm, 300, rfl⟩
abbrev main_c_74 : Ref sig .tc := ⟨.hbm, 301, rfl⟩
abbrev main_v211 : Ref sig .tc := ⟨.hbm, 302, rfl⟩
abbrev main_v212 : Ref sig .tc := ⟨.hbm, 303, rfl⟩
abbrev main_v213 : Ref sig .tc := ⟨.hbm, 304, rfl⟩
abbrev main_v214 : Ref sig .tc := ⟨.hbm, 305, rfl⟩
abbrev main_c_75 : Ref sig .tc := ⟨.hbm, 306, rfl⟩
abbrev main_v215 : Ref sig .tc := ⟨.hbm, 307, rfl⟩
abbrev main_c_76 : Ref sig .tc := ⟨.hbm, 308, rfl⟩
abbrev main_v216 : Ref sig .tc := ⟨.hbm, 309, rfl⟩
abbrev main_v217 : Ref sig .tc := ⟨.hbm, 310, rfl⟩
abbrev main_v218 : Ref sig .tc := ⟨.hbm, 311, rfl⟩
abbrev main_v219 : Ref sig .tc := ⟨.hbm, 312, rfl⟩
abbrev main_v220 : Ref sig .tc := ⟨.hbm, 313, rfl⟩
abbrev main_v221 : Ref sig .tc := ⟨.hbm, 314, rfl⟩
abbrev main_v222 : Ref sig .tc := ⟨.hbm, 315, rfl⟩
abbrev main_v223 : Ref sig .tc := ⟨.hbm, 316, rfl⟩
abbrev main_v224 : Ref sig .tc := ⟨.hbm, 317, rfl⟩
abbrev main_v225 : Ref sig .tc := ⟨.hbm, 318, rfl⟩
abbrev main_v226 : Ref sig .tc := ⟨.hbm, 319, rfl⟩
abbrev main_v227 : Ref sig .tc := ⟨.hbm, 320, rfl⟩
abbrev main_v228 : Ref sig .tc := ⟨.hbm, 321, rfl⟩
abbrev main_v229 : Ref sig .tc := ⟨.hbm, 322, rfl⟩
abbrev main_v230 : Ref sig .tc := ⟨.hbm, 323, rfl⟩
abbrev main_v231 : Ref sig .tc := ⟨.hbm, 324, rfl⟩
abbrev main_v232 : Ref sig .tc := ⟨.hbm, 325, rfl⟩
abbrev main_v233 : Ref sig .tc := ⟨.hbm, 326, rfl⟩
abbrev main_v234 : Ref sig .tc := ⟨.hbm, 327, rfl⟩
abbrev main_v235 : Ref sig .tc := ⟨.hbm, 328, rfl⟩
abbrev main_v236 : Ref sig .tc := ⟨.hbm, 329, rfl⟩
abbrev main_v237 : Ref sig .tc := ⟨.hbm, 330, rfl⟩
abbrev main_v238 : Ref sig .tc := ⟨.hbm, 331, rfl⟩
abbrev main_v239 : Ref sig .tc := ⟨.hbm, 332, rfl⟩
abbrev main_v240 : Ref sig .tc := ⟨.hbm, 333, rfl⟩
abbrev main_v241 : Ref sig .tc := ⟨.hbm, 334, rfl⟩
abbrev main_v242 : Ref sig .tc := ⟨.hbm, 335, rfl⟩
abbrev main_v243 : Ref sig .tc := ⟨.hbm, 336, rfl⟩
abbrev main_v244 : Ref sig .tc := ⟨.hbm, 337, rfl⟩
abbrev main_v245 : Ref sig .tc := ⟨.hbm, 338, rfl⟩
abbrev main_v246 : Ref sig .tc := ⟨.hbm, 339, rfl⟩
abbrev main_v247 : Ref sig .tc := ⟨.hbm, 340, rfl⟩
abbrev main_v248 : Ref sig .tc := ⟨.hbm, 341, rfl⟩
abbrev main_v249 : Ref sig .tc := ⟨.hbm, 342, rfl⟩
abbrev main_v250 : Ref sig .tc := ⟨.hbm, 343, rfl⟩
abbrev main_v251 : Ref sig .tc := ⟨.hbm, 344, rfl⟩
abbrev main_v252 : Ref sig .tc := ⟨.hbm, 345, rfl⟩
abbrev main_v253 : Ref sig .tc := ⟨.hbm, 346, rfl⟩
abbrev main_cst_77 : Ref sig .tc := ⟨.hbm, 347, rfl⟩
abbrev main_v254 : Ref sig .tc := ⟨.hbm, 348, rfl⟩
abbrev main_v255 : Ref sig .tc := ⟨.hbm, 349, rfl⟩
abbrev main_v256 : Ref sig .tc := ⟨.hbm, 350, rfl⟩
abbrev main_v257 : Ref sig .tc := ⟨.hbm, 351, rfl⟩
abbrev main_v258 : Ref sig .tc := ⟨.hbm, 352, rfl⟩
abbrev main_v259 : Ref sig .tc := ⟨.hbm, 353, rfl⟩
abbrev main_v260 : Ref sig .tc := ⟨.hbm, 354, rfl⟩
abbrev main_v261 : Ref sig .tc := ⟨.hbm, 355, rfl⟩
abbrev main_v262 : Ref sig .tc := ⟨.hbm, 356, rfl⟩
abbrev main_v263 : Ref sig .tc := ⟨.hbm, 357, rfl⟩
abbrev main_v264 : Ref sig .tc := ⟨.hbm, 358, rfl⟩
abbrev main_v265 : Ref sig .tc := ⟨.hbm, 359, rfl⟩
abbrev main_v266 : Ref sig .tc := ⟨.hbm, 360, rfl⟩
abbrev main_v267 : Ref sig .tc := ⟨.hbm, 361, rfl⟩
abbrev main_v268 : Ref sig .tc := ⟨.hbm, 362, rfl⟩
abbrev main_v269 : Ref sig .tc := ⟨.hbm, 363, rfl⟩
abbrev main_v270 : Ref sig .tc := ⟨.hbm, 364, rfl⟩
abbrev main_v271 : Ref sig .tc := ⟨.hbm, 365, rfl⟩
abbrev main_v272 : Ref sig .tc := ⟨.hbm, 366, rfl⟩
abbrev main_v273 : Ref sig .tc := ⟨.hbm, 367, rfl⟩
abbrev main_v274 : Ref sig .tc := ⟨.hbm, 368, rfl⟩
abbrev main_v275 : Ref sig .tc := ⟨.hbm, 369, rfl⟩
abbrev main_v276 : Ref sig .tc := ⟨.hbm, 370, rfl⟩
abbrev main_v277 : Ref sig .tc := ⟨.hbm, 371, rfl⟩
abbrev main_v278 : Ref sig .tc := ⟨.hbm, 372, rfl⟩
abbrev main_v279 : Ref sig .tc := ⟨.hbm, 373, rfl⟩
abbrev main_v280 : Ref sig .tc := ⟨.hbm, 374, rfl⟩
abbrev main_v281 : Ref sig .tc := ⟨.hbm, 375, rfl⟩
abbrev main_v282 : Ref sig .tc := ⟨.hbm, 376, rfl⟩
abbrev main_v283 : Ref sig .tc := ⟨.hbm, 377, rfl⟩
abbrev main_v284 : Ref sig .tc := ⟨.hbm, 378, rfl⟩
abbrev main_v285 : Ref sig .tc := ⟨.hbm, 379, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S528x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S16x512x20 : Shape := ⟨3, ![16, 512, 20]⟩
abbrev S16x512 : Shape := ⟨2, ![16, 512]⟩
abbrev S262x64 : Shape := ⟨2, ![262, 64]⟩
abbrev S256x64 : Shape := ⟨2, ![256, 64]⟩
abbrev S256 : Shape := ⟨1, ![256]⟩
abbrev S2x1x64 : Shape := ⟨3, ![2, 1, 64]⟩
abbrev S1x128 : Shape := ⟨2, ![1, 128]⟩
abbrev S8192x20 : Shape := ⟨2, ![8192, 20]⟩
abbrev S8192 : Shape := ⟨1, ![8192]⟩
abbrev S_ : Shape := ⟨0, ![]⟩
abbrev S8192x20x1 : Shape := ⟨3, ![8192, 20, 1]⟩
abbrev S8192x20x64 : Shape := ⟨3, ![8192, 20, 64]⟩
abbrev S20x8192x64 : Shape := ⟨3, ![20, 8192, 64]⟩
abbrev S20 : Shape := ⟨1, ![20]⟩
abbrev S20x1 : Shape := ⟨2, ![20, 1]⟩
abbrev S1x8192 : Shape := ⟨2, ![1, 8192]⟩
abbrev S20x8192 : Shape := ⟨2, ![20, 8192]⟩
abbrev S20x8192x1 : Shape := ⟨3, ![20, 8192, 1]⟩
abbrev S1x1x64 : Shape := ⟨3, ![1, 1, 64]⟩
abbrev S64 : Shape := ⟨1, ![64]⟩
abbrev S8192x64 : Shape := ⟨2, ![8192, 64]⟩
abbrev S1x8192x64 : Shape := ⟨3, ![1, 8192, 64]⟩
abbrev S1x8192x1 : Shape := ⟨3, ![1, 8192, 1]⟩
abbrev S8192x1 : Shape := ⟨2, ![8192, 1]⟩
abbrev S64x256 : Shape := ⟨2, ![64, 256]⟩
abbrev S8192x256 : Shape := ⟨2, ![8192, 256]⟩
abbrev S1x256 : Shape := ⟨2, ![1, 256]⟩
abbrev S20x8192x128 : Shape := ⟨3, ![20, 8192, 128]⟩
abbrev S128x1 : Shape := ⟨2, ![128, 1]⟩
abbrev S8192x128 : Shape := ⟨2, ![8192, 128]⟩

abbrev nBuf : Space → Nat
  | .hbm => 217
  | .vmem => 0
  | .smem => 0
  | _ => 0

abbrev hbmTy0_0 (i : Nat) : BufTy := match i % 128 with
  | 0 => ⟨S16x512x20, .i32⟩
  | 1 => ⟨S16x512, .i32⟩
  | 2 => ⟨S262x64, .f32⟩
  | 3 => ⟨S256x64, .f32⟩
  | 4 => ⟨S256x64, .f32⟩
  | 5 => ⟨S256, .f32⟩
  | 6 => ⟨S256, .f32⟩
  | 7 => ⟨S256x64, .f32⟩
  | 8 => ⟨S256x64, .f32⟩
  | 9 => ⟨S256, .f32⟩
  | 10 => ⟨S256, .f32⟩
  | 11 => ⟨S2x1x64, .f32⟩
  | 12 => ⟨S2x1x64, .f32⟩
  | 13 => ⟨S1x128, .f32⟩
  | 14 => ⟨S8192x20, .i32⟩
  | 15 => ⟨S8192, .i32⟩
  | 16 => ⟨S_, .i32⟩
  | 17 => ⟨S8192x20, .i32⟩
  | 18 => ⟨S8192x20, .i1⟩
  | 19 => ⟨S_, .i32⟩
  | 20 => ⟨S8192x20, .i32⟩
  | 21 => ⟨S8192x20, .i32⟩
  | 22 => ⟨S8192x20, .i32⟩
  | 23 => ⟨S8192x20x1, .i32⟩
  | 24 => ⟨S8192x20x64, .f32⟩
  | 25 => ⟨S20x8192x64, .f32⟩
  | 26 => ⟨S20, .i32⟩
  | 27 => ⟨S20x1, .i32⟩
  | 28 => ⟨S1x8192, .i32⟩
  | 29 => ⟨S20x8192, .i32⟩
  | 30 => ⟨S20x8192, .i32⟩
  | 31 => ⟨S20x8192, .i1⟩
  | 32 => ⟨S20x8192x1, .i1⟩
  | 33 => ⟨S256, .f32⟩
  | 34 => ⟨S256, .f32⟩
  | 35 => ⟨S1x1x64, .f32⟩
  | 36 => ⟨S64, .f32⟩
  | 37 => ⟨S8192x64, .f32⟩
  | 38 => ⟨S1x1x64, .f32⟩
  | 39 => ⟨S64, .f32⟩
  | 40 => ⟨S8192x64, .f32⟩
  | 41 => ⟨S1x1x64, .f32⟩
  | 42 => ⟨S64, .f32⟩
  | 43 => ⟨S8192x64, .f32⟩
  | 44 => ⟨S1x1x64, .f32⟩
  | 45 => ⟨S64, .f32⟩
  | 46 => ⟨S8192x64, .f32⟩
  | 47 => ⟨S20x8192x64, .f32⟩
  | 48 => ⟨S20x8192x1, .i1⟩
  | 49 => ⟨S_, .f32⟩
  | 50 => ⟨S20x8192x64, .f32⟩
  | 51 => ⟨S_, .f32⟩
  | 52 => ⟨S20x8192x64, .f32⟩
  | 53 => ⟨S_, .i32⟩
  | 54 => ⟨S20x8192x64, .f32⟩
  | 55 => ⟨S20x8192x1, .i1⟩
  | 56 => ⟨S20x8192x64, .f32⟩
  | 57 => ⟨S20x8192x1, .i1⟩
  | 58 => ⟨S256x64, .f32⟩
  | 59 => ⟨S256x64, .f32⟩
  | 60 => ⟨S256, .f32⟩
  | 61 => ⟨S256x64, .f32⟩
  | 62 => ⟨S256x64, .f32⟩
  | 63 => ⟨S256, .f32⟩
  | 64 => ⟨S_, .i32⟩
  | 65 => ⟨S8192x64, .f32⟩
  | 66 => ⟨S8192x64, .f32⟩
  | 67 => ⟨S8192x64, .f32⟩
  | 68 => ⟨S8192x64, .f32⟩
  | 69 => ⟨S20x8192x64, .f32⟩
  | 70 => ⟨S20x8192x64, .f32⟩
  | 71 => ⟨S_, .i32⟩
  | 72 => ⟨S_, .i1⟩
  | 73 => ⟨S_, .i32⟩
  | 74 => ⟨S_, .i32⟩
  | 75 => ⟨S1x8192x64, .f32⟩
  | 76 => ⟨S8192x64, .f32⟩
  | 77 => ⟨S_, .i32⟩
  | 78 => ⟨S_, .i32⟩
  | 79 => ⟨S1x8192x1, .i1⟩
  | 80 => ⟨S8192x1, .i1⟩
  | 81 => ⟨S_, .i32⟩
  | 82 => ⟨S_, .i32⟩
  | 83 => ⟨S1x8192x64, .f32⟩
  | 84 => ⟨S8192x64, .f32⟩
  | 85 => ⟨S_, .i32⟩
  | 86 => ⟨S_, .i32⟩
  | 87 => ⟨S1x8192x1, .i1⟩
  | 88 => ⟨S8192x1, .i1⟩
  | 89 => ⟨S64x256, .f32⟩
  | 90 => ⟨S8192x256, .f32⟩
  | 91 => ⟨S64x256, .f32⟩
  | 92 => ⟨S8192x256, .f32⟩
  | 93 => ⟨S8192x256, .f32⟩
  | 94 => ⟨S1x256, .f32⟩
  | 95 => ⟨S8192x256, .f32⟩
  | 96 => ⟨S8192x256, .f32⟩
  | 97 => ⟨S8192x64, .f32⟩
  | 98 => ⟨S8192x64, .f32⟩
  | 99 => ⟨S8192x64, .f32⟩
  | 100 => ⟨S8192x64, .f32⟩
  | 101 => ⟨S8192x64, .f32⟩
  | 102 => ⟨S8192x64, .f32⟩
  | 103 => ⟨S_, .f32⟩
  | 104 => ⟨S8192x64, .f32⟩
  | 105 => ⟨S8192x64, .f32⟩
  | 106 => ⟨S_, .f32⟩
  | 107 => ⟨S8192x64, .f32⟩
  | 108 => ⟨S8192x64, .f32⟩
  | 109 => ⟨S8192x64, .f32⟩
  | 110 => ⟨S8192x64, .f32⟩
  | 111 => ⟨S_, .f32⟩
  | 112 => ⟨S8192x64, .f32⟩
  | 113 => ⟨S8192x64, .f32⟩
  | 114 => ⟨S_, .f32⟩
  | 115 => ⟨S8192x64, .f32⟩
  | 116 => ⟨S8192x64, .f32⟩
  | 117 => ⟨S8192x64, .f32⟩
  | 118 => ⟨S8192x64, .f32⟩
  | 119 => ⟨S8192x64, .f32⟩
  | 120 => ⟨S_, .f32⟩
  | 121 => ⟨S8192x64, .f32⟩
  | 122 => ⟨S8192x64, .f32⟩
  | 123 => ⟨S_, .f32⟩
  | 124 => ⟨S8192x64, .f32⟩
  | 125 => ⟨S8192x64, .f32⟩
  | 126 => ⟨S8192x64, .f32⟩
  | 127 => ⟨S8192x64, .f32⟩
  | _ => ⟨S16x512x20, .i32⟩

abbrev hbmTy0_1 (i : Nat) : BufTy := match i % 128 with
  | 0 => ⟨S8192x64, .f32⟩
  | 1 => ⟨S8192x64, .f32⟩
  | 2 => ⟨S8192x64, .f32⟩
  | 3 => ⟨S8192x64, .i1⟩
  | 4 => ⟨S8192x64, .f32⟩
  | 5 => ⟨S8192x64, .i1⟩
  | 6 => ⟨S8192x64, .f32⟩
  | 7 => ⟨S_, .f32⟩
  | 8 => ⟨S_, .f32⟩
  | 9 => ⟨S8192x64, .i1⟩
  | 10 => ⟨S8192x64, .f32⟩
  | 11 => ⟨S8192x64, .f32⟩
  | 12 => ⟨S64x256, .f32⟩
  | 13 => ⟨S8192x256, .f32⟩
  | 14 => ⟨S64x256, .f32⟩
  | 15 => ⟨S8192x256, .f32⟩
  | 16 => ⟨S8192x256, .f32⟩
  | 17 => ⟨S1x256, .f32⟩
  | 18 => ⟨S8192x256, .f32⟩
  | 19 => ⟨S8192x256, .f32⟩
  | 20 => ⟨S8192x64, .f32⟩
  | 21 => ⟨S8192x64, .f32⟩
  | 22 => ⟨S8192x64, .f32⟩
  | 23 => ⟨S8192x64, .f32⟩
  | 24 => ⟨S8192x64, .f32⟩
  | 25 => ⟨S8192x64, .f32⟩
  | 26 => ⟨S_, .f32⟩
  | 27 => ⟨S8192x64, .f32⟩
  | 28 => ⟨S8192x64, .f32⟩
  | 29 => ⟨S_, .f32⟩
  | 30 => ⟨S8192x64, .f32⟩
  | 31 => ⟨S8192x64, .f32⟩
  | 32 => ⟨S8192x64, .f32⟩
  | 33 => ⟨S8192x64, .f32⟩
  | 34 => ⟨S_, .f32⟩
  | 35 => ⟨S8192x64, .f32⟩
  | 36 => ⟨S8192x64, .f32⟩
  | 37 => ⟨S_, .f32⟩
  | 38 => ⟨S8192x64, .f32⟩
  | 39 => ⟨S8192x64, .f32⟩
  | 40 => ⟨S8192x64, .f32⟩
  | 41 => ⟨S8192x64, .f32⟩
  | 42 => ⟨S8192x64, .f32⟩
  | 43 => ⟨S_, .f32⟩
  | 44 => ⟨S8192x64, .f32⟩
  | 45 => ⟨S8192x64, .f32⟩
  | 46 => ⟨S_, .f32⟩
  | 47 => ⟨S8192x64, .f32⟩
  | 48 => ⟨S8192x64, .f32⟩
  | 49 => ⟨S8192x64, .f32⟩
  | 50 => ⟨S8192x64, .f32⟩
  | 51 => ⟨S8192x64, .f32⟩
  | 52 => ⟨S8192x64, .f32⟩
  | 53 => ⟨S8192x64, .f32⟩
  | 54 => ⟨S8192x64, .i1⟩
  | 55 => ⟨S8192x64, .f32⟩
  | 56 => ⟨S8192x64, .i1⟩
  | 57 => ⟨S8192x64, .f32⟩
  | 58 => ⟨S_, .f32⟩
  | 59 => ⟨S_, .f32⟩
  | 60 => ⟨S8192x64, .i1⟩
  | 61 => ⟨S8192x64, .f32⟩
  | 62 => ⟨S8192x64, .f32⟩
  | 63 => ⟨S1x8192x64, .f32⟩
  | 64 => ⟨S_, .i32⟩
  | 65 => ⟨S_, .i32⟩
  | 66 => ⟨S20x8192x64, .f32⟩
  | 67 => ⟨S1x8192x64, .f32⟩
  | 68 => ⟨S_, .i32⟩
  | 69 => ⟨S_, .i32⟩
  | 70 => ⟨S20x8192x64, .f32⟩
  | 71 => ⟨S_, .i32⟩
  | 72 => ⟨S_, .i32⟩
  | 73 => ⟨S20x8192x64, .f32⟩
  | 74 => ⟨S20x8192x128, .f32⟩
  | 75 => ⟨S128x1, .f32⟩
  | 76 => ⟨S20x8192x1, .f32⟩
  | 77 => ⟨S20x8192x1, .f32⟩
  | 78 => ⟨S20x8192x1, .f32⟩
  | 79 => ⟨S_, .f32⟩
  | 80 => ⟨S20x8192x1, .f32⟩
  | 81 => ⟨S20x8192x1, .f32⟩
  | 82 => ⟨S_, .f32⟩
  | 83 => ⟨S20x8192x1, .f32⟩
  | 84 => ⟨S20x8192x1, .f32⟩
  | 85 => ⟨S20x8192x128, .f32⟩
  | 86 => ⟨S20x8192x128, .f32⟩
  | 87 => ⟨S_, .f32⟩
  | 88 => ⟨S8192x128, .f32⟩
  | _ => ⟨S16x512x20, .i32⟩

abbrev hbmTy (i : Nat) : BufTy := match i / 128 with
  | 0 => hbmTy0_0 i
  | 1 => hbmTy0_1 i
  | _ => ⟨S16x512x20, .i32⟩

abbrev bufTy : (tb : Table) → Fin (tcTables nBuf tb) → BufTy
  | .hbm, ⟨i, _⟩ => hbmTy i
  | _, _ => ⟨S16x512x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_c_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst : Ref sig .tc := ⟨.hbm, 49, rfl⟩
abbrev main_v33 : Ref sig .tc := ⟨.hbm, 50, rfl⟩
abbrev main_cst_1 : Ref sig .tc := ⟨.hbm, 51, rfl⟩
abbrev main_v34 : Ref sig .tc := ⟨.hbm, 52, rfl⟩
abbrev main_c_2 : Ref sig .tc := ⟨.hbm, 53, rfl⟩
abbrev main_v35_0 : Ref sig .tc := ⟨.hbm, 54, rfl⟩
abbrev main_v35_1 : Ref sig .tc := ⟨.hbm, 55, rfl⟩
abbrev main_v35_2 : Ref sig .tc := ⟨.hbm, 56, rfl⟩
abbrev main_v35_3 : Ref sig .tc := ⟨.hbm, 57, rfl⟩
abbrev main_v35_4 : Ref sig .tc := ⟨.hbm, 58, rfl⟩
abbrev main_v35_5 : Ref sig .tc := ⟨.hbm, 59, rfl⟩
abbrev main_v35_6 : Ref sig .tc := ⟨.hbm, 60, rfl⟩
abbrev main_v35_7 : Ref sig .tc := ⟨.hbm, 61, rfl⟩
abbrev main_v35_8 : Ref sig .tc := ⟨.hbm, 62, rfl⟩
abbrev main_v35_9 : Ref sig .tc := ⟨.hbm, 63, rfl⟩
abbrev main_v35_10 : Ref sig .tc := ⟨.hbm, 64, rfl⟩
abbrev main_v35_11 : Ref sig .tc := ⟨.hbm, 65, rfl⟩
abbrev main_v35_12 : Ref sig .tc := ⟨.hbm, 66, rfl⟩
abbrev main_v35_13 : Ref sig .tc := ⟨.hbm, 67, rfl⟩
abbrev main_v35_14 : Ref sig .tc := ⟨.hbm, 68, rfl⟩
abbrev main_v35_15 : Ref sig .tc := ⟨.hbm, 69, rfl⟩
abbrev main_v35_16 : Ref sig .tc := ⟨.hbm, 70, rfl⟩
abbrev main_while0c_c_22 : Ref sig .tc := ⟨.hbm, 71, rfl⟩
abbrev main_while0c_v49 : Ref sig .tc := ⟨.hbm, 72, rfl⟩
abbrev main_while0b_call2_c : Ref sig .tc := ⟨.hbm, 73, rfl⟩
abbrev main_while0b_call2_c_0 : Ref sig .tc := ⟨.hbm, 74, rfl⟩
abbrev main_while0b_call2_v0 : Ref sig .tc := ⟨.hbm, 75, rfl⟩
abbrev main_while0b_v49 : Ref sig .tc := ⟨.hbm, 76, rfl⟩
abbrev main_while0b_call3_c : Ref sig .tc := ⟨.hbm, 77, rfl⟩
abbrev main_while0b_call3_c_0 : Ref sig .tc := ⟨.hbm, 78, rfl⟩
abbrev main_while0b_call3_v0 : Ref sig .tc := ⟨.hbm, 79, rfl⟩
abbrev main_while0b_v50 : Ref sig .tc := ⟨.hbm, 80, rfl⟩
abbrev main_while0b_call4_c : Ref sig .tc := ⟨.hbm, 81, rfl⟩
abbrev main_while0b_call4_c_0 : Ref sig .tc := ⟨.hbm, 82, rfl⟩
abbrev main_while0b_call4_v0 : Ref sig .tc := ⟨.hbm, 83, rfl⟩
abbrev main_while0b_v51 : Ref sig .tc := ⟨.hbm, 84, rfl⟩
abbrev main_while0b_call5_c : Ref sig .tc := ⟨.hbm, 85, rfl⟩
abbrev main_while0b_call5_c_0 : Ref sig .tc := ⟨.hbm, 86, rfl⟩
abbrev main_while0b_call5_v0 : Ref sig .tc := ⟨.hbm, 87, rfl⟩
abbrev main_while0b_v52 : Ref sig .tc := ⟨.hbm, 88, rfl⟩
abbrev main_while0b_v53 : Ref sig .tc := ⟨.hbm, 89, rfl⟩
abbrev main_while0b_v54 : Ref sig .tc := ⟨.hbm, 90, rfl⟩
abbrev main_while0b_v55 : Ref sig .tc := ⟨.hbm, 91, rfl⟩
abbrev main_while0b_v56 : Ref sig .tc := ⟨.hbm, 92, rfl⟩
abbrev main_while0b_v57 : Ref sig .tc := ⟨.hbm, 93, rfl⟩
abbrev main_while0b_v58 : Ref sig .tc := ⟨.hbm, 94, rfl⟩
abbrev main_while0b_v59 : Ref sig .tc := ⟨.hbm, 95, rfl⟩
abbrev main_while0b_v60 : Ref sig .tc := ⟨.hbm, 96, rfl⟩
abbrev main_while0b_v61 : Ref sig .tc := ⟨.hbm, 97, rfl⟩
abbrev main_while0b_v62 : Ref sig .tc := ⟨.hbm, 98, rfl⟩
abbrev main_while0b_v63 : Ref sig .tc := ⟨.hbm, 99, rfl⟩
abbrev main_while0b_v64 : Ref sig .tc := ⟨.hbm, 100, rfl⟩
abbrev main_while0b_v65 : Ref sig .tc := ⟨.hbm, 101, rfl⟩
abbrev main_while0b_v66 : Ref sig .tc := ⟨.hbm, 102, rfl⟩
abbrev main_while0b_cst_22 : Ref sig .tc := ⟨.hbm, 103, rfl⟩
abbrev main_while0b_v67 : Ref sig .tc := ⟨.hbm, 104, rfl⟩
abbrev main_while0b_v68 : Ref sig .tc := ⟨.hbm, 105, rfl⟩
abbrev main_while0b_cst_23 : Ref sig .tc := ⟨.hbm, 106, rfl⟩
abbrev main_while0b_v69 : Ref sig .tc := ⟨.hbm, 107, rfl⟩
abbrev main_while0b_v70 : Ref sig .tc := ⟨.hbm, 108, rfl⟩
abbrev main_while0b_v71 : Ref sig .tc := ⟨.hbm, 109, rfl⟩
abbrev main_while0b_v72 : Ref sig .tc := ⟨.hbm, 110, rfl⟩
abbrev main_while0b_cst_24 : Ref sig .tc := ⟨.hbm, 111, rfl⟩
abbrev main_while0b_v73 : Ref sig .tc := ⟨.hbm, 112, rfl⟩
abbrev main_while0b_v74 : Ref sig .tc := ⟨.hbm, 113, rfl⟩
abbrev main_while0b_cst_25 : Ref sig .tc := ⟨.hbm, 114, rfl⟩
abbrev main_while0b_v75 : Ref sig .tc := ⟨.hbm, 115, rfl⟩
abbrev main_while0b_v76 : Ref sig .tc := ⟨.hbm, 116, rfl⟩
abbrev main_while0b_v77 : Ref sig .tc := ⟨.hbm, 117, rfl⟩
abbrev main_while0b_v78 : Ref sig .tc := ⟨.hbm, 118, rfl⟩
abbrev main_while0b_v79 : Ref sig .tc := ⟨.hbm, 119, rfl⟩
abbrev main_while0b_cst_26 : Ref sig .tc := ⟨.hbm, 120, rfl⟩
abbrev main_while0b_v80 : Ref sig .tc := ⟨.hbm, 121, rfl⟩
abbrev main_while0b_v81 : Ref sig .tc := ⟨.hbm, 122, rfl⟩
abbrev main_while0b_cst_27 : Ref sig .tc := ⟨.hbm, 123, rfl⟩
abbrev main_while0b_v82 : Ref sig .tc := ⟨.hbm, 124, rfl⟩
abbrev main_while0b_v83 : Ref sig .tc := ⟨.hbm, 125, rfl⟩
abbrev main_while0b_v84 : Ref sig .tc := ⟨.hbm, 126, rfl⟩
abbrev main_while0b_v85 : Ref sig .tc := ⟨.hbm, 127, rfl⟩
abbrev main_while0b_v86 : Ref sig .tc := ⟨.hbm, 128, rfl⟩
abbrev main_while0b_v87 : Ref sig .tc := ⟨.hbm, 129, rfl⟩
abbrev main_while0b_v88 : Ref sig .tc := ⟨.hbm, 130, rfl⟩
abbrev main_while0b_call6_v0 : Ref sig .tc := ⟨.hbm, 131, rfl⟩
abbrev main_while0b_v89 : Ref sig .tc := ⟨.hbm, 132, rfl⟩
abbrev main_while0b_call7_v0 : Ref sig .tc := ⟨.hbm, 133, rfl⟩
abbrev main_while0b_v90 : Ref sig .tc := ⟨.hbm, 134, rfl⟩
abbrev main_while0b_cst_28 : Ref sig .tc := ⟨.hbm, 135, rfl⟩
abbrev main_while0b_call8_v0 : Ref sig .tc := ⟨.hbm, 136, rfl⟩
abbrev main_while0b_call8_v1 : Ref sig .tc := ⟨.hbm, 137, rfl⟩
abbrev main_while0b_call8_v2 : Ref sig .tc := ⟨.hbm, 138, rfl⟩
abbrev main_while0b_v91 : Ref sig .tc := ⟨.hbm, 139, rfl⟩
abbrev main_while0b_v92 : Ref sig .tc := ⟨.hbm, 140, rfl⟩
abbrev main_while0b_v93 : Ref sig .tc := ⟨.hbm, 141, rfl⟩
abbrev main_while0b_v94 : Ref sig .tc := ⟨.hbm, 142, rfl⟩
abbrev main_while0b_v95 : Ref sig .tc := ⟨.hbm, 143, rfl⟩
abbrev main_while0b_v96 : Ref sig .tc := ⟨.hbm, 144, rfl⟩
abbrev main_while0b_v97 : Ref sig .tc := ⟨.hbm, 145, rfl⟩
abbrev main_while0b_v98 : Ref sig .tc := ⟨.hbm, 146, rfl⟩
abbrev main_while0b_v99 : Ref sig .tc := ⟨.hbm, 147, rfl⟩
abbrev main_while0b_v100 : Ref sig .tc := ⟨.hbm, 148, rfl⟩
abbrev main_while0b_v101 : Ref sig .tc := ⟨.hbm, 149, rfl⟩
abbrev main_while0b_v102 : Ref sig .tc := ⟨.hbm, 150, rfl⟩
abbrev main_while0b_v103 : Ref sig .tc := ⟨.hbm, 151, rfl⟩
abbrev main_while0b_v104 : Ref sig .tc := ⟨.hbm, 152, rfl⟩
abbrev main_while0b_v105 : Ref sig .tc := ⟨.hbm, 153, rfl⟩
abbrev main_while0b_cst_29 : Ref sig .tc := ⟨.hbm, 154, rfl⟩
abbrev main_while0b_v106 : Ref sig .tc := ⟨.hbm, 155, rfl⟩
abbrev main_while0b_v107 : Ref sig .tc := ⟨.hbm, 156, rfl⟩
abbrev main_while0b_cst_30 : Ref sig .tc := ⟨.hbm, 157, rfl⟩
abbrev main_while0b_v108 : Ref sig .tc := ⟨.hbm, 158, rfl⟩
abbrev main_while0b_v109 : Ref sig .tc := ⟨.hbm, 159, rfl⟩
abbrev main_while0b_v110 : Ref sig .tc := ⟨.hbm, 160, rfl⟩
abbrev main_while0b_v111 : Ref sig .tc := ⟨.hbm, 161, rfl⟩
abbrev main_while0b_cst_31 : Ref sig .tc := ⟨.hbm, 162, rfl⟩
abbrev main_while0b_v112 : Ref sig .tc := ⟨.hbm, 163, rfl⟩
abbrev main_while0b_v113 : Ref sig .tc := ⟨.hbm, 164, rfl⟩
abbrev main_while0b_cst_32 : Ref sig .tc := ⟨.hbm, 165, rfl⟩
abbrev main_while0b_v114 : Ref sig .tc := ⟨.hbm, 166, rfl⟩
abbrev main_while0b_v115 : Ref sig .tc := ⟨.hbm, 167, rfl⟩
abbrev main_while0b_v116 : Ref sig .tc := ⟨.hbm, 168, rfl⟩
abbrev main_while0b_v117 : Ref sig .tc := ⟨.hbm, 169, rfl⟩
abbrev main_while0b_v118 : Ref sig .tc := ⟨.hbm, 170, rfl⟩
abbrev main_while0b_cst_33 : Ref sig .tc := ⟨.hbm, 171, rfl⟩
abbrev main_while0b_v119 : Ref sig .tc := ⟨.hbm, 172, rfl⟩
abbrev main_while0b_v120 : Ref sig .tc := ⟨.hbm, 173, rfl⟩
abbrev main_while0b_cst_34 : Ref sig .tc := ⟨.hbm, 174, rfl⟩
abbrev main_while0b_v121 : Ref sig .tc := ⟨.hbm, 175, rfl⟩
abbrev main_while0b_v122 : Ref sig .tc := ⟨.hbm, 176, rfl⟩
abbrev main_while0b_v123 : Ref sig .tc := ⟨.hbm, 177, rfl⟩
abbrev main_while0b_v124 : Ref sig .tc := ⟨.hbm, 178, rfl⟩
abbrev main_while0b_v125 : Ref sig .tc := ⟨.hbm, 179, rfl⟩
abbrev main_while0b_v126 : Ref sig .tc := ⟨.hbm, 180, rfl⟩
abbrev main_while0b_v127 : Ref sig .tc := ⟨.hbm, 181, rfl⟩
abbrev main_while0b_call9_v0 : Ref sig .tc := ⟨.hbm, 182, rfl⟩
abbrev main_while0b_v128 : Ref sig .tc := ⟨.hbm, 183, rfl⟩
abbrev main_while0b_call10_v0 : Ref sig .tc := ⟨.hbm, 184, rfl⟩
abbrev main_while0b_v129 : Ref sig .tc := ⟨.hbm, 185, rfl⟩
abbrev main_while0b_cst_35 : Ref sig .tc := ⟨.hbm, 186, rfl⟩
abbrev main_while0b_call11_v0 : Ref sig .tc := ⟨.hbm, 187, rfl⟩
abbrev main_while0b_call11_v1 : Ref sig .tc := ⟨.hbm, 188, rfl⟩
abbrev main_while0b_call11_v2 : Ref sig .tc := ⟨.hbm, 189, rfl⟩
abbrev main_while0b_v130 : Ref sig .tc := ⟨.hbm, 190, rfl⟩
abbrev main_while0b_call12_v0 : Ref sig .tc := ⟨.hbm, 191, rfl⟩
abbrev main_while0b_call12_c : Ref sig .tc := ⟨.hbm, 192, rfl⟩
abbrev main_while0b_call12_c_0 : Ref sig .tc := ⟨.hbm, 193, rfl⟩
abbrev main_while0b_v131 : Ref sig .tc := ⟨.hbm, 194, rfl⟩
abbrev main_while0b_call13_v0 : Ref sig .tc := ⟨.hbm, 195, rfl⟩
abbrev main_while0b_call13_c : Ref sig .tc := ⟨.hbm, 196, rfl⟩
abbrev main_while0b_call13_c_0 : Ref sig .tc := ⟨.hbm, 197, rfl⟩
abbrev main_while0b_v132 : Ref sig .tc := ⟨.hbm, 198, rfl⟩
abbrev main_while0b_c_36 : Ref sig .tc := ⟨.hbm, 199, rfl⟩
abbrev main_while0b_v133 : Ref sig .tc := ⟨.hbm, 200, rfl⟩
abbrev main_v36 : Ref sig .tc := ⟨.hbm, 201, rfl⟩
abbrev main_v37 : Ref sig .tc := ⟨.hbm, 202, rfl⟩
abbrev main_v38 : Ref sig .tc := ⟨.hbm, 203, rfl⟩
abbrev main_v39 : Ref sig .tc := ⟨.hbm, 204, rfl⟩
abbrev main_v40 : Ref sig .tc := ⟨.hbm, 205, rfl⟩
abbrev main_v41 : Ref sig .tc := ⟨.hbm, 206, rfl⟩
abbrev main_cst_3 : Ref sig .tc := ⟨.hbm, 207, rfl⟩
abbrev main_v42 : Ref sig .tc := ⟨.hbm, 208, rfl⟩
abbrev main_v43 : Ref sig .tc := ⟨.hbm, 209, rfl⟩
abbrev main_cst_4 : Ref sig .tc := ⟨.hbm, 210, rfl⟩
abbrev main_v44 : Ref sig .tc := ⟨.hbm, 211, rfl⟩
abbrev main_v45 : Ref sig .tc := ⟨.hbm, 212, rfl⟩
abbrev main_v46 : Ref sig .tc := ⟨.hbm, 213, rfl⟩
abbrev main_v47 : Ref sig .tc := ⟨.hbm, 214, rfl⟩
abbrev main_cst_5 : Ref sig .tc := ⟨.hbm, 215, rfl⟩
abbrev main_v48 : Ref sig .tc := ⟨.hbm, 216, rfl⟩

abbrev nD : Nat := 1
abbrev τ : Topo := Topo.v7x

variable {F : FTy → Type} [FloatOps F]

abbrev main_while0_count : Scf.Loop 32 := ⟨0#32, 20#32, 1#32⟩
-- ==== Proof.KHost.lean ====
module

public import proofs.«01_k».proof.Proof.Gen.KernelIdeal.Frame
public import Idealize.ShloMosaic.Lib.StableHlo.RunRead

@[expose] public section

set_option maxRecDepth 16384

noncomputable section

/-!
The arrays the host computes before the launch, as functions of the arguments.
-/

namespace Cert.KernelIdeal.Host

open Idealize.ShloMosaic Idealize.ShloMosaic.TcCoe Idealize.ShloMosaic.Tactic
open Cert.KernelIdeal Cert.KernelIdeal.Gen

variable {F : FTy → Type} [FloatOps F]

/-! ## The concatenations -/

/-- Two index words in a row. -/
def catWord (a b : IVec S1 32) : IVec S2 32 := concatenate S2 0 [⟨S1, a⟩, ⟨S1, b⟩] concatenates_S1_S1_S2_d0

/-- The columns of the packed indices and lengths. -/
def catCols (a b : IVec S8x512x20 32) (c d : IVec S8x512x1 32) (z : IVec S8x512x22 32) : IVec S8x512x64 32 :=
  concatenate S8x512x64 2 [⟨S8x512x20, a⟩, ⟨S8x512x20, b⟩, ⟨S8x512x1, c⟩, ⟨S8x512x1, d⟩, ⟨S8x512x22, z⟩]
    concatenates_S8x512x20_S8x512x20_S8x512x1_S8x512x1_S8x512x22_S8x512x64_d2

/-- Four gates' values in a row. -/
def catGates (a b c d : FVec F S64 .f32) : FVec F S256 .f32 :=
  concatenate S256 0 [⟨S64, a⟩, ⟨S64, b⟩, ⟨S64, c⟩, ⟨S64, d⟩] concatenates_S64_S64_S64_S64_S256_d0

/-- The input's weights above the state's. -/
def catWeights (a b : FVec F S64x256 .f32) : FVec F S128x256 .f32 :=
  concatenate S128x256 0 [⟨S64x256, a⟩, ⟨S64x256, b⟩] concatenates_S64x256_S64x256_S128x256_d0

/-- Two words' values in a row. -/
def cat64 (a b : FVec F S64 .f32) : FVec F S128 .f32 := concatenate S128 0 [⟨S64, a⟩, ⟨S64, b⟩] concatenates_S64_S64_S128_d0

/-- Four gates' values of two words in a row. -/
def catGates2 (a b c d : FVec F S128 .f32) : FVec F S512 .f32 :=
  concatenate S512 0 [⟨S128, a⟩, ⟨S128, b⟩, ⟨S128, c⟩, ⟨S128, d⟩] concatenates_S128_S128_S128_S128_S512_d0

/-- Two rows of gates. -/
def catBias (a b : FVec F S1x512 .f32) : FVec F S2x512 .f32 :=
  concatenate S2x512 0 [⟨S1x512, a⟩, ⟨S1x512, b⟩] concatenates_S1x512_S1x512_S2x512_d0

/-- Two rows of lanes. -/
def catRows (a b : FVec F S1x128 .f32) : FVec F S2x128 .f32 :=
  concatenate S2x128 0 [⟨S1x128, a⟩, ⟨S1x128, b⟩] concatenates_S1x128_S1x128_S2x128_d0

/-- Two squares of lanes, one above the other. -/
def catSquares (a b : FVec F S128x128 .f32) : FVec F S256x128 .f32 :=
  concatenate S256x128 0 [⟨S128x128, a⟩, ⟨S128x128, b⟩] concatenates_S128x128_S128x128_S256x128_d0

/-- Four rows of lanes. -/
def catStarts (a b c d : FVec F S1x128 .f32) : FVec F S4x128 .f32 :=
  concatenate S4x128 0 [⟨S1x128, a⟩, ⟨S1x128, b⟩, ⟨S1x128, c⟩, ⟨S1x128, d⟩] concatenates_S1x128_S1x128_S1x128_S1x128_S4x128_d0

/-! ## The arrays -/

/-- The indices and lengths, a row per pair of words. -/
def colpack (ci : IVec S16x512x20 32) (tl : IVec S16x512 32) : IVec S4096x64 32 :=
  have idx : IVec S8x2x512x20 32 := shapeCast S8x2x512x20 (shapeCast S8192x20 ci shapeCasts_S16x512x20_S8192x20) shapeCasts_S8192x20_S8x2x512x20
  have len : IVec S8x2x512x1 32 := shapeCast S8x2x512x1 (shapeCast S8192 tl shapeCasts_S16x512_S8192) shapeCasts_S8192_S8x2x512x1
  shapeCast S4096x64 (catCols
    (shapeCast S8x512x20 (extractStridedSlice S8x1x512x20 ![0, 0, 0, 0] idx slices_S8x2x512x20_S8x1x512x20_0_0_0_0) shapeCasts_S8x1x512x20_S8x512x20)
    (shapeCast S8x512x20 (extractStridedSlice S8x1x512x20 ![0, 1, 0, 0] idx slices_S8x2x512x20_S8x1x512x20_0_1_0_0) shapeCasts_S8x1x512x20_S8x512x20)
    (shapeCast S8x512x1 (extractStridedSlice S8x1x512x1 ![0, 0, 0, 0] len slices_S8x2x512x1_S8x1x512x1_0_0_0_0) shapeCasts_S8x1x512x1_S8x512x1)
    (shapeCast S8x512x1 (extractStridedSlice S8x1x512x1 ![0, 1, 0, 0] len slices_S8x2x512x1_S8x1x512x1_0_1_0_0) shapeCasts_S8x1x512x1_S8x512x1)
    (broadcastInDim S8x512x22 ![] bcast_S_S8x512x22 (constantI S_ 32 0#32))) shapeCasts_S8x512x64_S4096x64

/-- One word of a scatter's start. -/
def word1 (r : BitVec 32) : IVec S1 32 := broadcastInDim S1 ![] bcast_S_S1 (constantI S_ 32 r)

/-- The start of a scatter into a matrix. -/
def word2 (r c : BitVec 32) : IVec S2 32 := catWord (word1 r) (word1 c)

/-- The embedding table with two rows of zeros below it. -/
def embPad (e : FVec F S262x64 .f32) : FVec F S264x64 .f32 :=
  Host.scatter scatter_S264x64_S1_S262x64_01_n_0_0 (fun _ b => b)
    (broadcastInDim S264x64 ![] bcast_S_S264x64 (constant S_ .f32 0x00000000#32)) (word1 0#32) e

/-- The padded table twice on the diagonal. -/
def emb2 (e : FVec F S262x64 .f32) : FVec F S528x128 .bf16 :=
  truncf .bf16 (Host.scatter scatter_S528x128_S2_S264x64_01_n_01_0 (fun _ b => b)
    (Host.scatter scatter_S528x128_S2_S264x64_01_n_01_0 (fun _ b => b)
      (broadcastInDim S528x128 ![] bcast_S_S528x128 (constant S_ .f32 0x00000000#32)) (word2 0#32 0#32) (embPad e))
    (word2 264#32 64#32) (embPad e)) bitsLt_bf16_f32

/-- The gates' scales. -/
def scales : FVec F S256 .f32 :=
  have half : FVec F S64 .f32 := broadcastInDim S64 ![] bcast_S_S64 (constant S_ .f32 0x3F000000#32)
  catGates half half (broadcastInDim S64 ![] bcast_S_S64 (constant S_ .f32 0x3F800000#32)) half

/-- Both weights of a direction, transposed, the input's above the state's, each column scaled. -/
def wcat (wi wh : FVec F S256x64 .f32) : FVec F S128x256 .f32 :=
  mulf (catWeights (transpose S64x256 [1, 0] wi transposes_S256x64_S64x256_1_0) (transpose S64x256 [1, 0] wh transposes_S256x64_S64x256_1_0))
    (broadcastInDim S128x256 ![0, 1] bcast_S1x256_S128x256_0_1 (broadcastInDim S1x256 ![1] bcast_S256_S1x256_1 scales))

/-- A matrix with a block set. -/
def put (x : FVec F S256x512 .f32) (r c : BitVec 32) (blk : FVec F S64x64 .f32) : FVec F S256x512 .f32 :=
  Host.scatter scatter_S256x512_S2_S64x64_01_n_01_0 (fun _ b => b) x (word2 r c) blk

/-- A matrix with the four blocks of one gate set, from that gate's columns `b`; `c` is the gate's first column. -/
def putGate (b : FVec F S128x64 .f32) (c : ℕ) (x : FVec F S256x512 .f32) : FVec F S256x512 .f32 :=
  have hi : FVec F S64x64 .f32 := extractStridedSlice S64x64 ![0, 0] b slices_S128x64_S64x64_0_0
  have lo : FVec F S64x64 .f32 := extractStridedSlice S64x64 ![64, 0] b slices_S128x64_S64x64_64_0
  put (put (put (put x 0#32 (BitVec.ofNat 32 c) hi) 128#32 (BitVec.ofNat 32 c) lo) 64#32 (BitVec.ofNat 32 (c + 64)) hi) 192#32 (BitVec.ofNat 32 (c + 64)) lo

/-- The weights of both words of a pair. -/
def pairCols (w : FVec F S128x256 .f32) : FVec F S256x512 .bf16 :=
  truncf .bf16 (putGate (extractStridedSlice S128x64 ![0, 192] w slices_S128x256_S128x64_0_192) 384
    (putGate (extractStridedSlice S128x64 ![0, 128] w slices_S128x256_S128x64_0_128) 256
      (putGate (extractStridedSlice S128x64 ![0, 64] w slices_S128x256_S128x64_0_64) 128
        (putGate (extractStridedSlice S128x64 ![0, 0] w slices_S128x256_S128x64_0_0) 0
          (broadcastInDim S256x512 ![] bcast_S_S256x512 (constant S_ .f32 0x00000000#32)))))) bitsLt_bf16_f32

/-- A vector twice in a row. -/
def twice (v : FVec F S64 .f32) : FVec F S128 .f32 := cat64 v v

/-- A direction's bias, scaled, each gate's part twice. -/
def pairBias (b1 b2 : FVec F S256 .f32) : FVec F S512 .f32 :=
  have b : FVec F S256 .f32 := mulf (addf b1 b2) scales
  catGates2 (twice (extractStridedSlice S64 ![0] b slices_S256_S64_0)) (twice (extractStridedSlice S64 ![64] b slices_S256_S64_64))
    (twice (extractStridedSlice S64 ![128] b slices_S256_S64_128)) (twice (extractStridedSlice S64 ![192] b slices_S256_S64_192))

/-- Both directions' biases. -/
def biases (b1 b2 b3 b4 : FVec F S256 .f32) : FVec F S2x512 .f32 :=
  catBias (broadcastInDim S1x512 ![1] bcast_S512_S1x512_1 (pairBias b1 b2)) (broadcastInDim S1x512 ![1] bcast_S512_S1x512_1 (pairBias b3 b4))

/-- The attention weights, each direction's half twice, halved. -/
def attn2 (a : FVec F S1x128 .f32) : FVec F S2x128 .f32 :=
  mulf (broadcastInDim S2x128 ![] bcast_S_S2x128 (constant S_ .f32 0x3F000000#32))
    (catRows (broadcastInDim S1x128 ![1] bcast_S128_S1x128_1 (twice (shapeCast S64 (extractStridedSlice S1x64 ![0, 0] a slices_S1x128_S1x64_0_0) shapeCasts_S1x64_S64)))
      (broadcastInDim S1x128 ![1] bcast_S128_S1x128_1 (twice (shapeCast S64 (extractStridedSlice S1x64 ![0, 64] a slices_S1x128_S1x64_0_64) shapeCasts_S1x64_S64))))

/-- One where row and column belong to the same word, zero elsewhere. -/
def sameWord : FVec F S128x128 .f32 := fun i => FloatOps.ofBits .f32 (lit0 (S128x128.rowMajor i))

/-- A row of weights down the rows, where row and column belong to the same word. -/
def diag (v : FVec F S1x128 .f32) : FVec F S128x128 .f32 :=
  mulf (broadcastInDim S128x128 ![0, 1] bcast_S128x1_S128x128_0_1 (broadcastInDim S128x1 ![0] bcast_S128_S128x1_0
    (shapeCast S128 v shapeCasts_S1x128_S128))) sameWord

/-- The attention's matrix. -/
def onesBd (a : FVec F S1x128 .f32) : FVec F S256x128 .bf16 :=
  truncf .bf16 (catSquares (diag (extractStridedSlice S1x128 ![0, 0] (attn2 a) slices_S2x128_S1x128_0_0))
    (diag (extractStridedSlice S1x128 ![1, 0] (attn2 a) slices_S2x128_S1x128_1_0))) bitsLt_bf16_f32

/-- A start state, twice in a row. -/
def startTwice (v : FVec F S1x1x64 .f32) : FVec F S1x128 .f32 :=
  broadcastInDim S1x128 ![1] bcast_S128_S1x128_1 (twice (shapeCast S64 v shapeCasts_S1x1x64_S64))

/-- The start states. -/
def starts (h c : FVec F S2x1x64 .f32) : FVec F S4x128 .f32 :=
  catStarts (startTwice (extractStridedSlice S1x1x64 ![0, 0, 0] h slices_S2x1x64_S1x1x64_0_0_0))
    (startTwice (extractStridedSlice S1x1x64 ![0, 0, 0] c slices_S2x1x64_S1x1x64_0_0_0))
    (startTwice (extractStridedSlice S1x1x64 ![1, 0, 0] h slices_S2x1x64_S1x1x64_1_0_0))
    (startTwice (extractStridedSlice S1x1x64 ![1, 0, 0] c slices_S2x1x64_S1x1x64_1_0_0))

/-! ## The concatenations, folded -/

theorem fold_catWord (a b : IVec S1 32) : concatenate S2 0 [⟨S1, a⟩, ⟨S1, b⟩] concatenates_S1_S1_S2_d0 = catWord a b := rfl
theorem fold_catCols (a b : IVec S8x512x20 32) (c d : IVec S8x512x1 32) (z : IVec S8x512x22 32) :
    concatenate S8x512x64 2 [⟨S8x512x20, a⟩, ⟨S8x512x20, b⟩, ⟨S8x512x1, c⟩, ⟨S8x512x1, d⟩, ⟨S8x512x22, z⟩]
      concatenates_S8x512x20_S8x512x20_S8x512x1_S8x512x1_S8x512x22_S8x512x64_d2 = catCols a b c d z := rfl
theorem fold_catGates (a b c d : FVec F S64 .f32) :
    concatenate S256 0 [⟨S64, a⟩, ⟨S64, b⟩, ⟨S64, c⟩, ⟨S64, d⟩] concatenates_S64_S64_S64_S64_S256_d0 = catGates a b c d := rfl
theorem fold_catWeights (a b : FVec F S64x256 .f32) :
    concatenate S128x256 0 [⟨S64x256, a⟩, ⟨S64x256, b⟩] concatenates_S64x256_S64x256_S128x256_d0 = catWeights a b := rfl
theorem fold_cat64 (a b : FVec F S64 .f32) : concatenate S128 0 [⟨S64, a⟩, ⟨S64, b⟩] concatenates_S64_S64_S128_d0 = cat64 a b := rfl
theorem fold_catGates2 (a b c d : FVec F S128 .f32) :
    concatenate S512 0 [⟨S128, a⟩, ⟨S128, b⟩, ⟨S128, c⟩, ⟨S128, d⟩] concatenates_S128_S128_S128_S128_S512_d0 = catGates2 a b c d := rfl
theorem fold_catBias (a b : FVec F S1x512 .f32) :
    concatenate S2x512 0 [⟨S1x512, a⟩, ⟨S1x512, b⟩] concatenates_S1x512_S1x512_S2x512_d0 = catBias a b := rfl
theorem fold_catRows (a b : FVec F S1x128 .f32) :
    concatenate S2x128 0 [⟨S1x128, a⟩, ⟨S1x128, b⟩] concatenates_S1x128_S1x128_S2x128_d0 = catRows a b := rfl
theorem fold_catSquares (a b : FVec F S128x128 .f32) :
    concatenate S256x128 0 [⟨S128x128, a⟩, ⟨S128x128, b⟩] concatenates_S128x128_S128x128_S256x128_d0 = catSquares a b := rfl
theorem fold_catStarts (a b c d : FVec F S1x128 .f32) :
    concatenate S4x128 0 [⟨S1x128, a⟩, ⟨S1x128, b⟩, ⟨S1x128, c⟩, ⟨S1x128, d⟩] concatenates_S1x128_S1x128_S1x128_S1x128_S4x128_d0
      = catStarts a b c d := rfl

/-! ## The reads -/

variable (m : (ℓ : Loc nD τ sig) → Buf (Elt F) ℓ) (c : Dev nD)

/-- The packed indices and lengths, before the launch. -/
theorem V_colpack : V m c main_v14 = colpack (m ((c : Thread nD τ).loc main_arg0)) (m ((c : Thread nD τ).loc main_arg1)) := by
  unfold V
  after_reads_simp
  iterate 5
    try dsimp only [Matrix.cons_val]
    try simp only [fold_catWord, fold_catCols, fold_catGates, fold_catWeights, fold_cat64, fold_catGates2, fold_catBias,
      fold_catRows, fold_catSquares, fold_catStarts]
    try after_reads_simp
  sl_kernel_rfl

/-- The paired embedding table. -/
theorem V_emb2 : V m c main_v27 = emb2 (F := F) (m ((c : Thread nD τ).loc main_arg2)) := by
  unfold V
  after_reads_simp
  iterate 5
    try dsimp only [Matrix.cons_val]
    try simp only [fold_catWord, fold_catCols, fold_catGates, fold_catWeights, fold_cat64, fold_catGates2, fold_catBias,
      fold_catRows, fold_catSquares, fold_catStarts]
    try after_reads_simp
  sl_kernel_rfl

/-- The forward direction's paired weights. -/
theorem V_wf : V m c main_v133 = pairCols (F := F) (wcat (m ((c : Thread nD τ).loc main_arg3)) (m ((c : Thread nD τ).loc main_arg4))) := by
  unfold V
  after_reads_simp
  iterate 5
    try dsimp only [Matrix.cons_val]
    try simp only [fold_catWord, fold_catCols, fold_catGates, fold_catWeights, fold_cat64, fold_catGates2, fold_catBias,
      fold_catRows, fold_catSquares, fold_catStarts]
    try after_reads_simp
  sl_kernel_rfl

/-- The reverse direction's paired weights. -/
theorem V_wr : V m c main_v219 = pairCols (F := F) (wcat (m ((c : Thread nD τ).loc main_arg7)) (m ((c : Thread nD τ).loc main_arg8))) := by
  unfold V
  after_reads_simp
  iterate 5
    try dsimp only [Matrix.cons_val]
    try simp only [fold_catWord, fold_catCols, fold_catGates, fold_catWeights, fold_cat64, fold_catGates2, fold_catBias,
      fold_catRows, fold_catSquares, fold_catStarts]
    try after_reads_simp
  sl_kernel_rfl

/-- Both directions' paired biases. -/
theorem V_biases : V m c main_v244 = biases (F := F) (m ((c : Thread nD τ).loc main_arg5)) (m ((c : Thread nD τ).loc main_arg6)) (m ((c : Thread nD τ).loc main_arg9)) (m ((c : Thread nD τ).loc main_arg10)) := by
  unfold V
  after_reads_simp
  iterate 5
    try dsimp only [Matrix.cons_val]
    try simp only [fold_catWord, fold_catCols, fold_catGates, fold_catWeights, fold_cat64, fold_catGates2, fold_catBias,
      fold_catRows, fold_catSquares, fold_catStarts]
    try after_reads_simp
  sl_kernel_rfl

/-- The attention's matrix. -/
theorem V_ones : V m c main_v267 = onesBd (F := F) (m ((c : Thread nD τ).loc main_arg13)) := by
  unfold V
  after_reads_simp
  iterate 5
    try dsimp only [Matrix.cons_val]
    try simp only [fold_catWord, fold_catCols, fold_catGates, fold_catWeights, fold_cat64, fold_catGates2, fold_catBias,
      fold_catRows, fold_catSquares, fold_catStarts]
    try after_reads_simp
  sl_kernel_rfl

/-- The start states. -/
theorem V_starts : V m c main_v284 = starts (F := F) (m ((c : Thread nD τ).loc main_arg11)) (m ((c : Thread nD τ).loc main_arg12)) := by
  unfold V
  after_reads_simp
  iterate 5
    try dsimp only [Matrix.cons_val]
    try simp only [fold_catWord, fold_catCols, fold_catGates, fold_catWeights, fold_cat64, fold_catGates2, fold_catBias,
      fold_catRows, fold_catSquares, fold_catStarts]
    try after_reads_simp
  sl_kernel_rfl

end Cert.KernelIdeal.Host

end
-- ==== Proof.KBody.lean ====
module

public import proofs.«01_k».proof.Proof.Gen.KernelIdeal.Frame

@[expose] public section

set_option maxRecDepth 16384

noncomputable section

/-!
The kernel's body as one recursion over the characters: what the body computes from its loads, written once for every
step, and the pieces it stores.
-/

namespace Cert.KernelIdeal.Body

open Idealize.ShloMosaic Idealize.ShloMosaic.TcCoe
open Idealize.SL Idealize.SL.Sem
open Cert.KernelIdeal Cert.KernelIdeal.Gen

variable {F : FTy → Type} [FloatOps F]

/-! ## The pieces of one step -/

/-- The embedding rows of one character of the block's words: the one-hot rows of both words' indices against the table. -/
def xRow (ia ib : Vec F S512x1 .i32) (emb : Vec F S528x128 .bf16) : FVec F S1x512x128 .bf16 :=
  have lane : IVec S512x528 32 := iota .tc S512x528 32 [1] iota_S512x528_d1_w32
  have a : IVec S512x1 32 := shapeCast S512x1 ia shapeCasts_S512x1_S512x1
  have b : IVec S512x1 32 := addi (shapeCast S512x1 ib shapeCasts_S512x1_S512x1) (broadcast S512x1 264#32)
  have target : IVec S512x528 32 := select (cmpi .slt lane (broadcast S512x528 264#32))
    (broadcastTo S512x528 (shapeCast S512x1 a shapeCasts_S512x1_S512x1) broadcasts_S512x1_S512x528)
    (broadcastTo S512x528 (shapeCast S512x1 b shapeCasts_S512x1_S512x1) broadcasts_S512x1_S512x528)
  have onehot : FVec F S512x528 .bf16 :=
    truncf .bf16 (sitofp .f32 (extui 32 (cmpi .eq target lane) natLt_1_32)) bitsLt_bf16_f32
  shapeCast S1x512x128 (truncf .bf16 (matmul dot_S512x528_S528x128_S512x128_1_0_0_1_n_n none onehot
    (shapeCast S528x128 emb shapeCasts_S528x128_S528x128) (constant S512x128 .f32 0x00000000#32)) bitsLt_bf16_f32)
    shapeCasts_S512x128_S1x512x128

/-- The lengths of the two words of a row, each in its half of the lanes. -/
def lenMat (la lb : Vec F S512x1 .i32) : IVec S512x128 32 :=
  select (cmpi .slt (iota .tc S512x128 32 [1] iota_S512x128_d1_w32) (broadcast S512x128 64#32))
    (broadcastTo S512x128 (shapeCast S512x1 (shapeCast S512x1 la shapeCasts_S512x1_S512x1) shapeCasts_S512x1_S512x1) broadcasts_S512x1_S512x128)
    (broadcastTo S512x128 (shapeCast S512x1 (shapeCast S512x1 lb shapeCasts_S512x1_S512x1) shapeCasts_S512x1_S512x1) broadcasts_S512x1_S512x128)

/-- A bias row as it enters the sums. -/
def biasRow (v : Vec F S1x512 .f32) : FVec F S1x512 .f32 :=
  shapeCast S1x512 (shapeCast S512 v shapeCasts_S1x512_S512) shapeCasts_S512_S1x512

/-- A start state, the same for every word of the block. -/
def startRow (v : Vec F S1x128 .f32) : FVec F S512x128 .f32 :=
  broadcastTo S512x128 (shapeCast S1x128 (shapeCast S1x128 (shapeCast S128 v shapeCasts_S1x128_S128) shapeCasts_S128_S1x128)
    shapeCasts_S1x128_S1x128) broadcasts_S1x128_S512x128

/-- The pre-activations of all gates of the block's words. -/
def gates (bias : FVec F S1x512 .f32) (h : FVec F S512x128 .f32) (x : Vec F S1x512x128 .bf16) (w : Vec F S256x512 .bf16) :
    FVec F S512x512 .f32 :=
  addf (matmul dot_S512x256_S256x512_S512x512_1_0_0_1_n_n none
      (concatenate S512x256 1 [⟨S512x128, shapeCast S512x128 x shapeCasts_S1x512x128_S512x128⟩,
        ⟨S512x128, truncf .bf16 h bitsLt_bf16_f32⟩] concatenates_S512x128_S512x128_S512x256_d1)
      (shapeCast S256x512 w shapeCasts_S256x512_S256x512) (constant S512x512 .f32 0x00000000#32))
    (broadcastTo S512x512 bias broadcasts_S1x512_S512x512)

/-- Half the hyperbolic tangent, plus a half. -/
def sg (z : FVec F S512x128 .f32) : FVec F S512x128 .f32 :=
  addf (mulf (broadcast S512x128 (Scalar.ofBits .f32 0x3F000000#32)) (tanh z))
    (broadcast S512x128 (Scalar.ofBits .f32 0x3F000000#32))

/-- The next cell state, of the pre-activations and the cell state. -/
def cNew (g : FVec F S512x512 .f32) (c : FVec F S512x128 .f32) : FVec F S512x128 .f32 :=
  addf (mulf (sg (extractStridedSlice S512x128 ![0, 128] g slices_S512x512_o0_128_S512x128)) c)
    (mulf (sg (extractStridedSlice S512x128 ![0, 0] g slices_S512x512_o0_0_S512x128))
      (tanh (extractStridedSlice S512x128 ![0, 256] g slices_S512x512_o0_256_S512x128)))

/-- The next hidden state, of the pre-activations and the cell state. -/
def hNew (g : FVec F S512x512 .f32) (c : FVec F S512x128 .f32) : FVec F S512x128 .f32 :=
  mulf (sg (extractStridedSlice S512x128 ![0, 384] g slices_S512x512_o0_384_S512x128)) (tanh (cNew g c))

/-- Which words have a character number `t`. -/
def mask (len : IVec S512x128 32) (t : ℕ) : IVec S512x128 1 := cmpi .sgt len (broadcast S512x128 (BitVec.ofNat 32 t))

/-- Zero everywhere. -/
def zeros : FVec F S512x128 .f32 := broadcast S512x128 (Scalar.ofBits .f32 0x00000000#32)

/-- The attention weights of a character from both directions' outputs. -/
def att (f r : FVec F S512x128 .f32) (ones : Vec F S256x128 .bf16) : FVec F S512x128 .f32 :=
  sg (matmul dot_S512x256_S256x128_S512x128_1_0_0_1_n_n none
    (truncf .bf16 (concatenate S512x256 1 [⟨S512x128, f⟩, ⟨S512x128, r⟩] concatenates_S512x128_S512x128_S512x256_d1) bitsLt_bf16_f32)
    (shapeCast S256x128 ones shapeCasts_S256x128_S256x128) (constant S512x128 .f32 0x00000000#32))

/-! ## The recursions -/

/-- The loads of the body, apart from the two scratch buffers. -/
structure Loads (F : FTy → Type) where
  /-- A column of the packed indices and lengths. -/
  col : ℕ → Vec F S512x1 .i32
  emb : Vec F S528x128 .bf16
  wf : Vec F S256x512 .bf16
  wr : Vec F S256x512 .bf16
  bf : Vec F S1x512 .f32
  br : Vec F S1x512 .f32
  ones : Vec F S256x128 .bf16
  /-- A row of the start states. -/
  start : ℕ → Vec F S1x128 .f32

variable (I : Loads F) (xs : ℕ → Vec F S1x512x128 .bf16) (fs : ℕ → Vec F S1x512x128 .f32)

/-- The lengths' matrix. -/
def len : IVec S512x128 32 := lenMat (I.col 40) (I.col 41)

/-- The forward states (hidden, cell) before character `t`, of the stored embedding rows `xs`. -/
def fwd : ℕ → FVec F S512x128 .f32 × FVec F S512x128 .f32
  | 0 => (startRow (I.start 0), startRow (I.start 1))
  | t + 1 => (hNew (gates (biasRow I.bf) (fwd t).1 (xs t) I.wf) (fwd t).2,
      cNew (gates (biasRow I.bf) (fwd t).1 (xs t) I.wf) (fwd t).2)

/-- The forward output at character `t`. -/
def outF (t : ℕ) : FVec F S512x128 .f32 := select (mask (len I) t) (fwd I xs (t + 1)).1 zeros

/-- What the backward pass carries: hidden and cell state, the sums of both directions' gated outputs. -/
structure Back (F : FTy → Type) where
  h : FVec F S512x128 .f32
  c : FVec F S512x128 .f32
  accF : FVec F S512x128 .f32
  accR : FVec F S512x128 .f32

/-- One backward step, at character `t`, of the stored forward output `f`. -/
def backStep (t : ℕ) (f : FVec F S512x128 .f32) (s : Back F) : Back F :=
  have g := gates (biasRow I.br) s.h (xs t) I.wr
  have o : FVec F S512x128 .f32 := select (mask (len I) t) (hNew g s.c) zeros
  { h := select (mask (len I) t) (hNew g s.c) s.h
    c := select (mask (len I) t) (cNew g s.c) s.c
    accF := addf s.accF (mulf (att f o I.ones) f)
    accR := addf s.accR (mulf (att f o I.ones) o) }

/-- The backward pass after `k` steps: characters `19`, `18`, … in turn. -/
def back : ℕ → Back F
  | 0 => ⟨startRow (I.start 2), startRow (I.start 3), zeros, zeros⟩
  | k + 1 => backStep I xs (19 - k) (shapeCast S512x128 (fs (19 - k)) shapeCasts_S1x512x128_S512x128) (back k)

/-! ## What the body stores -/

theorem inb_plane (t : ℕ) : ∀ a : Fin 3, (![t % 20, 0, 0] : Fin 3 → ℕ) a + S1x512x128.size a ≤ S20x512x128.size a := by
  intro a
  have := Nat.mod_lt t (by omega : 20 > 0)
  match a with
  | 0 => show t % 20 + 1 ≤ 20; omega
  | 1 => show 0 + 512 ≤ 512; omega
  | 2 => show 0 + 128 ≤ 128; omega

/-- Plane `t` of a scratch buffer. -/
def plane (t : ℕ) : Rect S20x512x128 := Rect.unit (s := S20x512x128) ![t % 20, 0, 0] S1x512x128.size (inb_plane t)

/-- The stores into the first scratch buffer, last first: the embedding rows of each character. -/
def xPieces : ℕ → List (View.Piece (Elt F) S20x512x128 .bf16)
  | 0 => []
  | t + 1 => ⟨plane t, xRow (I.col t) (I.col (20 + t)) I.emb⟩ :: xPieces t

/-- The stores into the second scratch buffer, last first: the forward outputs of each character. -/
def fPieces : ℕ → List (View.Piece (Elt F) S20x512x128 .f32)
  | 0 => []
  | t + 1 => ⟨plane t, shapeCast S1x512x128 (outF I xs t) shapeCasts_S512x128_S1x512x128⟩ :: fPieces t

/-- The stores into the output block, last first. -/
def outPieces (a b : FVec F S512x128 .f32) : List (View.Piece (Elt F) S1024x128 .f32) :=
  [⟨Rect.unit (s := S1024x128) ![512, 64] S512x64.size inb_S1024x128_S512x64_512_64, extractStridedSlice S512x64 ![0, 64] b slices_S512x128_o0_64_S512x64⟩,
   ⟨Rect.unit (s := S1024x128) ![512, 0] S512x64.size inb_S1024x128_S512x64_512_0, extractStridedSlice S512x64 ![0, 64] a slices_S512x128_o0_64_S512x64⟩,
   ⟨Rect.unit (s := S1024x128) ![0, 64] S512x64.size inb_S1024x128_S512x64_0_64, extractStridedSlice S512x64 ![0, 0] b slices_S512x128_o0_0_S512x64⟩,
   ⟨Rect.unit (s := S1024x128) ![0, 0] S512x64.size inb_S1024x128_S512x64_0_0, extractStridedSlice S512x64 ![0, 0] a slices_S512x128_o0_0_S512x64⟩]

/-! ## The run of the body -/

theorem inb_col (k : ℕ) : ∀ a : Fin 2, (![0, k % 64] : Fin 2 → ℕ) a + S512x1.size a ≤ S512x64.size a := by
  intro a
  have := Nat.mod_lt k (by omega : 64 > 0)
  match a with
  | 0 => show 0 + 512 ≤ 512; omega
  | 1 => show k % 64 + 1 ≤ 64; omega

theorem inb_start (k : ℕ) : ∀ a : Fin 2, (![k % 4, 0] : Fin 2 → ℕ) a + S1x128.size a ≤ S4x128.size a := by
  intro a
  have := Nat.mod_lt k (by omega : 4 > 0)
  match a with
  | 0 => show k % 4 + 1 ≤ 4; omega
  | 1 => show 0 + 128 ≤ 128; omega

end Cert.KernelIdeal.Body

end
-- ==== Proof.Spec.lean ====
module

public import Idealize.ShloMosaic.Lib.Pointwise

@[expose] public section

noncomputable section

/-!
The mathematics both programs compute, on extended reals, for one word: an LSTM cell run over the word's twenty
characters forwards and backwards, and the sum over the characters of the gated pair of outputs.
-/

namespace Cert.Spec

open Idealize.ShloMosaic

/-! ## Scalars -/

/-- One half. -/
def half : EReal := ((1 / 2 : ℝ) : EReal)

theorem half_nonneg : 0 ≤ half := by
  unfold half
  exact_mod_cast (by norm_num : (0 : ℝ) ≤ 1 / 2)

theorem half_mul_add (a b : EReal) : half * (a + b) = half * a + half * b :=
  EReal.left_distrib_of_nonneg_of_ne_top half_nonneg (EReal.coe_ne_top _) a b

theorem half_mul_sum {K : Nat} (f : Fin K → EReal) : half * ∑ k, f k = ∑ k, half * f k := by
  classical
  refine Finset.induction_on (motive := fun s => half * ∑ k ∈ s, f k = ∑ k ∈ s, half * f k) Finset.univ (by simp) ?_
  intro a s ha ih
  rw [Finset.sum_insert ha, Finset.sum_insert ha, half_mul_add, ih]

theorem half_mul_top : half * ⊤ = ⊤ := EReal.coe_mul_top_of_pos (by norm_num)
theorem half_mul_bot : half * ⊥ = ⊥ := EReal.coe_mul_bot_of_pos (by norm_num)
theorem half_add_half : half + half = 1 := by
  rw [half, ← EReal.coe_add, ← EReal.coe_one]; norm_num

/-- The logistic function is the shifted and scaled hyperbolic tangent of half the argument. -/
theorem half_tanh_half (z : EReal) : half * Ideal.tanh (half * z) + half = Ideal.logistic z := by
  induction z using EReal.rec with
  | bot =>
    rw [half_mul_bot, Ideal.tanh_bot, Ideal.logistic_bot, mul_neg, mul_one, half, ← EReal.coe_neg, ← EReal.coe_add]
    norm_num
  | top => rw [half_mul_top, Ideal.tanh_top, Ideal.logistic_top, mul_one, half_add_half]
  | coe r =>
    rw [half, ← EReal.coe_mul, Ideal.tanh_coe, Ideal.logistic_coe, ← EReal.coe_mul, ← EReal.coe_add]
    congr 1
    have hp : (0 : ℝ) < Real.exp (1 / 2 * r) := Real.exp_pos _
    have e : Real.exp (-r) = (Real.exp (1 / 2 * r))⁻¹ * (Real.exp (1 / 2 * r))⁻¹ := by
      rw [← Real.exp_neg, ← Real.exp_add]; congr 1; ring
    rw [Real.tanh_eq_sinh_div_cosh, Real.sinh_eq, Real.cosh_eq, Real.exp_neg, e]
    field_simp
    ring

/-! ## The cell -/

/-- A pre-activation of the cell: input and state against their weight rows, and the bias. -/
def gate (Wi Wh : Fin 256 → Fin 64 → EReal) (b : Fin 256 → EReal) (x h : Fin 64 → EReal) (g : Fin 256) : EReal :=
  (∑ k, x k * Wi g k + ∑ k, h k * Wh g k) + b g

/-- Row `64 q + j` of the weights: entry `j` of gate number `q` (input, forget, cell, output). -/
def row (q : Fin 4) (j : Fin 64) : Fin 256 := ⟨64 * q.val + j.val, by omega⟩

/-- The cell's next cell state. -/
def cellC (Wi Wh : Fin 256 → Fin 64 → EReal) (b : Fin 256 → EReal) (x h c : Fin 64 → EReal) (j : Fin 64) : EReal :=
  Ideal.logistic (gate Wi Wh b x h (row 1 j)) * c j
    + Ideal.logistic (gate Wi Wh b x h (row 0 j)) * Ideal.tanh (gate Wi Wh b x h (row 2 j))

/-- The cell's next hidden state. -/
def cellH (Wi Wh : Fin 256 → Fin 64 → EReal) (b : Fin 256 → EReal) (x h c : Fin 64 → EReal) (j : Fin 64) : EReal :=
  Ideal.logistic (gate Wi Wh b x h (row 3 j)) * Ideal.tanh (cellC Wi Wh b x h c j)

/-! ## The masked recurrence -/

section Run
variable (Wi Wh : Fin 256 → Fin 64 → EReal) (b : Fin 256 → EReal) (h0 c0 : Fin 64 → EReal)
  (x : ℕ → Fin 64 → EReal) (p : ℕ → Bool)

/-- One step of the cell on the pair of states (hidden, cell). -/
def next (k : ℕ) (s : (Fin 64 → EReal) × (Fin 64 → EReal)) : (Fin 64 → EReal) × (Fin 64 → EReal) :=
  (cellH Wi Wh b (x k) s.1 s.2, cellC Wi Wh b (x k) s.1 s.2)

/-- The states before step `k` of the recurrence over the inputs `x`: a step whose mask `p` is false keeps them. -/
def st : ℕ → (Fin 64 → EReal) × (Fin 64 → EReal)
  | 0 => (h0, c0)
  | k + 1 => if p k = true then next Wi Wh b x k (st k) else st k

/-- The output of step `k`: the new hidden state where the mask is true, zero where it is false. -/
def out (k : ℕ) (j : Fin 64) : EReal :=
  if p k = true then (next Wi Wh b x k (st Wi Wh b h0 c0 x p k)).1 j else 0

/-- The states of the recurrence that ignores the mask. -/
def stU : ℕ → (Fin 64 → EReal) × (Fin 64 → EReal)
  | 0 => (h0, c0)
  | k + 1 => next Wi Wh b x k (stU k)

/-- The outputs of the recurrence that ignores the mask in its states. -/
def outU (k : ℕ) (j : Fin 64) : EReal :=
  if p k = true then (next Wi Wh b x k (stU Wi Wh b h0 c0 x k)).1 j else 0

theorem st_succ (k : ℕ) : st Wi Wh b h0 c0 x p (k + 1)
    = if p k = true then next Wi Wh b x k (st Wi Wh b h0 c0 x p k) else st Wi Wh b h0 c0 x p k := rfl

theorem stU_succ (k : ℕ) : stU Wi Wh b h0 c0 x (k + 1) = next Wi Wh b x k (stU Wi Wh b h0 c0 x k) := rfl

/-- While a mask that is true on a prefix is true, the states with and without it agree. -/
theorem st_eq_stU (hp : ∀ i j, i ≤ j → p j = true → p i = true) (k : ℕ) (hk : p k = true) :
    st Wi Wh b h0 c0 x p k = stU Wi Wh b h0 c0 x k := by
  induction k with
  | zero => rfl
  | succ k ih =>
    have h := hp k (k + 1) (Nat.le_succ k) hk
    rw [st_succ, stU_succ, if_pos h, ih h]

/-- For a mask that is true on a prefix, the outputs do not see whether the states are masked. -/
theorem outU_eq_out (hp : ∀ i j, i ≤ j → p j = true → p i = true) (k : ℕ) (j : Fin 64) :
    outU Wi Wh b h0 c0 x p k j = out Wi Wh b h0 c0 x p k j := by
  unfold out outU
  by_cases h : p k = true
  · rw [if_pos h, if_pos h, st_eq_stU Wi Wh b h0 c0 x p hp k h]
  · rw [if_neg h, if_neg h]

end Run

/-! ## The result -/

/-- The gate of one character: the logistic of the pair of outputs' product with the attention weights. -/
def att (af ar : Fin 64 → EReal) (f r : Fin 64 → EReal) : EReal :=
  Ideal.logistic (∑ k, f k * af k + ∑ k, r k * ar k)

/-- One direction's half of a word's result: that direction's outputs `o`, each gated by the pair's gate, summed over the
    characters. -/
def result (af ar : Fin 64 → EReal) (f r o : ℕ → Fin 64 → EReal) (j : Fin 64) : EReal :=
  ∑ t ∈ Finset.range 20, att af ar (f t) (r t) * o t j

/-! ## Lanes: two words side by side -/

/-- Lane `64 s + j`: entry `j` of the word in half `s`. -/
def lane (s : Fin 2) (j : Fin 64) : Fin 128 := ⟨64 * s.val + j.val, by omega⟩

/-- A sum over the lanes is the sum over both halves. -/
theorem sum_lanes (f : Fin 128 → EReal) : ∑ k, f k = ∑ j, f (lane 0 j) + ∑ j, f (lane 1 j) := by
  rw [show ∑ k, f k = ∑ k : Fin (64 + 64), f k from rfl, Fin.sum_univ_add]
  congr 1

/-- Every lane is an entry of one of the halves. -/
theorem exists_lane (l : Fin 128) : ∃ s j, l = lane s j := by
  by_cases h : l.val < 64
  · exact ⟨0, ⟨l.val, h⟩, Fin.ext (by show l.val = 64 * 0 + l.val; omega)⟩
  · exact ⟨1, ⟨l.val - 64, by omega⟩, Fin.ext (by show l.val = 64 * 1 + (l.val - 64); omega)⟩

/-! ## A word's result -/

/-- Whether a word of length `n` has a character number `t`. -/
def has (n : BitVec 32) (t : ℕ) : Bool := decide ((t : ℤ) < n.toInt)

theorem has_prefix (n : BitVec 32) (i j : ℕ) (h : i ≤ j) (hj : has n j = true) : has n i = true := by
  unfold has at *
  simp only [decide_eq_true_eq] at *
  omega

/-- A signed comparison of a character's number with a length. -/
theorem slt_has (n : BitVec 32) (t : ℕ) (ht : t < 2 ^ 31) : (BitVec.ofNat 32 t).slt n = has n t := by
  rw [BitVec.slt_eq_decide, BitVec.toInt_eq_toNat_of_lt (by rw [BitVec.toNat_ofNat]; omega), BitVec.toNat_ofNat,
    Nat.mod_eq_of_lt (by omega)]
  rfl

/-- The weights: the embedding table's rows, both directions' cells and start states, the attention's two halves. -/
structure Model where
  emb : ℕ → Fin 64 → EReal
  Wif : Fin 256 → Fin 64 → EReal
  Whf : Fin 256 → Fin 64 → EReal
  bf : Fin 256 → EReal
  Wir : Fin 256 → Fin 64 → EReal
  Whr : Fin 256 → Fin 64 → EReal
  br : Fin 256 → EReal
  h0f : Fin 64 → EReal
  c0f : Fin 64 → EReal
  h0r : Fin 64 → EReal
  c0r : Fin 64 → EReal
  af : Fin 64 → EReal
  ar : Fin 64 → EReal

variable (M : Model) (idx : ℕ → ℕ) (n : BitVec 32)

/-- The forward direction's output at character `t` of the word with characters `idx` and length `n`. -/
def wordF (t : ℕ) : Fin 64 → EReal := out M.Wif M.Whf M.bf M.h0f M.c0f (fun i => M.emb (idx i)) (has n) t

/-- The states of the reverse direction before its step `k`, which reads character `19 - k`. -/
def stR (k : ℕ) : (Fin 64 → EReal) × (Fin 64 → EReal) :=
  st M.Wir M.Whr M.br M.h0r M.c0r (fun i => M.emb (idx (19 - i))) (fun i => has n (19 - i)) k

/-- The reverse direction's output at its step `k`. -/
def outR (k : ℕ) : Fin 64 → EReal :=
  out M.Wir M.Whr M.br M.h0r M.c0r (fun i => M.emb (idx (19 - i))) (fun i => has n (19 - i)) k

/-- The reverse direction's output at character `t`. -/
def wordR (t : ℕ) : Fin 64 → EReal := outR M idx n (19 - t)

/-- A word's result: the forward direction's half (`d = 0`) and the reverse one's. -/
def word (d : Fin 2) (j : Fin 64) : EReal :=
  result M.af M.ar (wordF M idx n) (wordR M idx n) (if d = 0 then wordF M idx n else wordR M idx n) j

/-- The sum over the characters taken from the last to the first. -/
theorem result_reflect (af ar : Fin 64 → EReal) (f r o : ℕ → Fin 64 → EReal) (j : Fin 64) :
    ∑ k ∈ Finset.range 20, att af ar (f (19 - k)) (r (19 - k)) * o (19 - k) j = result af ar f r o j :=
  Finset.sum_range_reflect (fun t => att af ar (f t) (r t) * o t j) 20

end Cert.Spec

end
-- ==== Proof.KPoint.lean ====
module

public import proofs.«01_k».proof.Proof.KBody
public import proofs.«01_k».proof.Proof.Spec

@[expose] public section

set_option maxRecDepth 16384

noncomputable section

/-!
The kernel's body read entry by entry on extended reals: lane `64 s + j` of row `p` holds entry `j` of the row's word in
half `s`, and every quantity of the body there is the specification's for that word.
-/

namespace Cert.KernelIdeal.Body

open Idealize.ShloMosaic Idealize.ShloMosaic.TcCoe
open Cert.KernelIdeal Cert.KernelIdeal.Gen Cert.Spec

/-! ## Scalars -/

theorem ofBits_half : Ideal.ofBits .f32 0x3F000000#32 = half := by
  unfold half
  simp [Ideal.ofBits, Ideal.ieee, -EReal.coe_mul]; norm_num

theorem select_ofBool (b : Bool) (x y : EReal) : Scalar.select (BitVec.ofBool b) x y = if b = true then x else y := by
  cases b <;> rfl

theorem select_ofBool_int {w : Nat} (b : Bool) (x y : BitVec w) :
    Scalar.select (BitVec.ofBool b) x y = if b = true then x else y := by
  cases b <;> rfl

theorem slt_ofNat (a b : ℕ) (ha : a < 2 ^ 31) (hb : b < 2 ^ 31) :
    (BitVec.ofNat 32 a).slt (BitVec.ofNat 32 b) = decide (a < b) := by
  rw [BitVec.slt_eq_decide, BitVec.toInt_eq_toNat_of_lt (by rw [BitVec.toNat_ofNat]; omega),
    BitVec.toInt_eq_toNat_of_lt (by rw [BitVec.toNat_ofNat]; omega), BitVec.toNat_ofNat, BitVec.toNat_ofNat,
    Nat.mod_eq_of_lt (by omega), Nat.mod_eq_of_lt (by omega)]
  simp

theorem ofNat_eq_iff (a b : ℕ) (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-- An equality test as a float: one where it holds, zero elsewhere. -/
theorem sitofp_eq (a b : BitVec 32) :
    (FloatOps.sitofp .f32 (BitVec.setWidth 32 (IntOp.cmpi .eq a b)) : Ideal .f32) = if a = b then (1 : EReal) else 0 := by
  show ((((BitVec.ofBool (a == b)).setWidth 32).toInt : ℝ) : EReal) = _
  by_cases h : a = b
  · rw [if_pos h, show (a == b) = true by simpa using h]
    rw [show ((BitVec.ofBool true).setWidth 32).toInt = 1 by decide]; norm_cast
  · rw [if_neg h, show (a == b) = false by simpa using h]
    rw [show ((BitVec.ofBool false).setWidth 32).toInt = 0 by decide]; norm_cast

/-! ## The embedding rows -/

/-- The one-hot factor at table row `x`: one at the first word's index and, in the table's second part, at the second's. -/
theorem onehot_apply (a b : ℕ) (ha : a < 264) (hb : b < 264) (x : Fin 528) :
    (FloatOps.sitofp .f32 (BitVec.setWidth 32 (IntOp.cmpi .eq
        (Scalar.select (IntOp.cmpi .slt (BitVec.ofNat 32 x.val) 264#32) (BitVec.ofNat 32 a)
          (IntOp.addi (BitVec.ofNat 32 b) 264#32)) (BitVec.ofNat 32 x.val))) : Ideal .f32)
      = (if x = ⟨a, by omega⟩ then (1 : EReal) else 0) + (if x = ⟨264 + b, by omega⟩ then (1 : EReal) else 0) := by
  have hx := x.isLt
  rw [sitofp_eq]
  rw [show IntOp.cmpi .slt (BitVec.ofNat 32 x.val) 264#32 = BitVec.ofBool (decide (x.val < 264)) from
    congrArg BitVec.ofBool (slt_ofNat x.val 264 (by omega) (by omega)), select_ofBool_int]
  rw [show IntOp.addi (BitVec.ofNat 32 b) 264#32 = BitVec.ofNat 32 (b + 264) from (BitVec.ofNat_add b 264).symm]
  simp only [decide_eq_true_eq, Fin.ext_iff]
  by_cases h : x.val < 264
  · rw [if_pos h, if_neg (show ¬ x.val = 264 + b by omega), add_zero]
    by_cases e : x.val = a
    · rw [if_pos e, if_pos (by rw [e])]
    · rw [if_neg e, if_neg]
      rw [ofNat_eq_iff _ _ (by omega) (by omega)]; omega
  · rw [if_neg h, if_neg (show ¬ x.val = a by omega), zero_add]
    by_cases e : x.val = 264 + b
    · rw [if_pos e, if_pos (by rw [e, Nat.add_comm])]
    · rw [if_neg e, if_neg]
      rw [ofNat_eq_iff _ _ (by omega) (by omega)]; omega

/-- The embedding rows' entry: the first word's table row and the second's, of the table's second part, added. -/
theorem xRow_apply (ia ib : Vec Ideal S512x1 .i32) (emb : Vec Ideal S528x128 .bf16) (p : Fin 512) (l : Fin 128) (a b : ℕ)
    (ha : a < 264) (hb : b < 264) (hia : ia (ix2 p 0) = BitVec.ofNat 32 a) (hib : ib (ix2 p 0) = BitVec.ofNat 32 b) :
    xRow ia ib emb (ix3 0 p l) = emb (ix2 ⟨a, by omega⟩ l) + emb (ix2 ⟨264 + b, by omega⟩ l) := by
  pointwise [xRow]
  rw [hia, hib]
  simp only [onehot_apply a b ha hb]
  have hd : ∀ x : Fin 528, ((if x = ⟨a, by omega⟩ then (1 : EReal) else 0) + (if x = ⟨264 + b, by omega⟩ then (1 : EReal) else 0))
        * emb (ix2 x l)
      = (if x = ⟨a, by omega⟩ then emb (ix2 x l) else 0) + (if x = ⟨264 + b, by omega⟩ then emb (ix2 x l) else 0) := by
    intro x
    rw [EReal.right_distrib_of_nonneg (by split <;> norm_num) (by split <;> norm_num)]
    congr 1 <;> split <;> simp
  simp only [hd, Finset.sum_add_distrib, Finset.sum_ite_eq', Finset.mem_univ, if_true]

/-! ## The lengths and the masks -/

theorem lenMat_apply (la lb : Vec Ideal S512x1 .i32) (p : Fin 512) (s : Fin 2) (j : Fin 64) :
    lenMat (F := Ideal) la lb (ix2 p (lane s j)) = if s = 0 then la (ix2 p 0) else lb (ix2 p 0) := by
  pointwise [lenMat]
  rw [show IntOp.cmpi .slt (BitVec.ofNat 32 (lane s j).val) 64#32 = BitVec.ofBool (decide ((lane s j).val < 64)) from
    congrArg BitVec.ofBool (slt_ofNat _ 64 (by have := (lane s j).isLt; omega) (by omega)), select_ofBool_int]
  have hv : (lane s j).val = 64 * s.val + j.val := rfl
  by_cases h : s = 0
  · rw [if_pos h, if_pos (by rw [hv, h]; simp)]
  · have : s.val = 1 := by omega
    rw [if_neg h, if_neg (by rw [hv, this]; simp)]

theorem select_mask_apply (m : IVec S512x128 32) (t : ℕ) (ht : t < 2 ^ 31) (a b : FVec Ideal S512x128 .f32) (i : S512x128.Idx) :
    select (mask m t) a b i = if has (m i) t = true then a i else b i := by
  rw [← slt_has (m i) t ht]
  exact select_ofBool _ (a i) (b i)

theorem zeros_apply (i : S512x128.Idx) : zeros (F := Ideal) i = (0 : EReal) := by
  pointwise [zeros]

/-! ## One step -/

theorem sg_apply (z : FVec Ideal S512x128 .f32) (i : S512x128.Idx) : sg z i = half * Ideal.tanh (z i) + half := by
  pointwise [sg]
  rw [ofBits_half]

/-- Column `128 q + 64 s + j` of the paired gates: entry `j` of gate `q` of the word in half `s`. -/
def gcol (q : Fin 4) (s : Fin 2) (j : Fin 64) : Fin 512 := ⟨128 * q.val + (lane s j).val, by have := (lane s j).isLt; omega⟩

/-- The scale of a gate's pre-activations: a half where a logistic is computed as a hyperbolic tangent, one elsewhere. -/
def scale (q : Fin 4) : EReal := if q = 2 then 1 else half

/-- What the kernel's packed weights hold: both words' scaled weights, the input's rows before the state's, and zero where a
    word's row meets the other word's column. -/
structure Paired (w : Vec Ideal S256x512 .bf16) (b : Vec Ideal S1x512 .f32) (Wi Wh : Fin 256 → Fin 64 → EReal)
    (bias : Fin 256 → EReal) : Prop where
  input : ∀ (q : Fin 4) (s s' : Fin 2) (j k : Fin 64),
    w (ix2 ⟨(lane s' k).val, by have := (lane s' k).isLt; omega⟩ (gcol q s j)) = if s' = s then Wi (row q j) k * scale q else 0
  state : ∀ (q : Fin 4) (s s' : Fin 2) (j k : Fin 64),
    w (ix2 ⟨128 + (lane s' k).val, by have := (lane s' k).isLt; omega⟩ (gcol q s j)) = if s' = s then Wh (row q j) k * scale q else 0
  bias : ∀ (q : Fin 4) (s : Fin 2) (j : Fin 64), b (ix2 0 (gcol q s j)) = bias (row q j) * scale q

theorem scale_mul_add (q : Fin 4) (a b : EReal) : scale q * (a + b) = scale q * a + scale q * b := by
  unfold scale
  split
  · rw [one_mul, one_mul, one_mul]
  · exact half_mul_add a b

theorem scale_mul_sum (q : Fin 4) {K : Nat} (f : Fin K → EReal) : ∑ k, scale q * f k = scale q * ∑ k, f k := by
  unfold scale
  split
  · simp only [one_mul]
  · exact (half_mul_sum f).symm

/-- A sum over the lanes against one half's packed column is the sum over that half. -/
theorem sum_paired (q : Fin 4) (s : Fin 2) (x : Fin 128 → EReal) (w : Fin 128 → EReal) (W : Fin 64 → EReal)
    (hw : ∀ s' k, w (lane s' k) = if s' = s then W k * scale q else 0) :
    ∑ k, x k * w k = scale q * ∑ k, x (lane s k) * W k := by
  rw [sum_lanes, ← scale_mul_sum]
  simp only [hw]
  match s with
  | 0 =>
    simp only [if_true, if_neg (show ¬ (1 : Fin 2) = 0 by decide), mul_zero, Finset.sum_const_zero, add_zero]
    exact Finset.sum_congr rfl fun k _ => by rw [← mul_assoc, mul_comm]
  | 1 =>
    simp only [if_true, if_neg (show ¬ (0 : Fin 2) = 1 by decide), mul_zero, Finset.sum_const_zero, zero_add]
    exact Finset.sum_congr rfl fun k _ => by rw [← mul_assoc, mul_comm]

variable {w : Vec Ideal S256x512 .bf16} {b : Vec Ideal S1x512 .f32} {Wi Wh : Fin 256 → Fin 64 → EReal} {bias : Fin 256 → EReal}

theorem biasRow_apply (v : Vec Ideal S1x512 .f32) (l : Fin 512) : biasRow v (ix2 0 l) = v (ix2 0 l) := by
  pointwise [biasRow]

theorem startRow_apply (v : Vec Ideal S1x128 .f32) (p : Fin 512) (l : Fin 128) : startRow v (ix2 p l) = v (ix2 0 l) := by
  pointwise [startRow]

/-- The pre-activations: the specification's gate, scaled. -/
theorem gates_apply (hW : Paired w b Wi Wh bias) (h : FVec Ideal S512x128 .f32) (x : Vec Ideal S1x512x128 .bf16)
    (p : Fin 512) (q : Fin 4) (s : Fin 2) (j : Fin 64) :
    gates (biasRow b) h x w (ix2 p (gcol q s j))
      = scale q * gate Wi Wh bias (fun k => x (ix3 0 p (lane s k))) (fun k => h (ix2 p (lane s k))) (row q j) := by
  pointwise [gates]
  rw [biasRow_apply, hW.bias]
  rw [sum_paired q s (fun k => x (ix3 0 p k)) (fun k => w (ix2 ⟨k.val, by have := k.isLt; omega⟩ (gcol q s j))) (Wi (row q j))
    (fun s' k => hW.input q s s' j k)]
  rw [sum_paired q s (fun k => h (ix2 p k)) (fun k => w (ix2 ⟨128 + k.val, by have := k.isLt; omega⟩ (gcol q s j))) (Wh (row q j))
    (fun s' k => hW.state q s s' j k)]
  unfold gate
  rw [mul_comm (bias _), ← scale_mul_add, ← scale_mul_add]

/-- The next cell state. -/
theorem cNew_apply (hW : Paired w b Wi Wh bias) (h c : FVec Ideal S512x128 .f32) (x : Vec Ideal S1x512x128 .bf16)
    (p : Fin 512) (s : Fin 2) (j : Fin 64) :
    cNew (gates (biasRow b) h x w) c (ix2 p (lane s j))
      = cellC Wi Wh bias (fun k => x (ix3 0 p (lane s k))) (fun k => h (ix2 p (lane s k))) (fun k => c (ix2 p (lane s k))) j := by
  pointwise [cNew]
  simp only [sg_apply]
  pointwise
  have g := fun q => gates_apply hW h x p q s j
  have g0 := g 0
  have g1 := g 1
  have g2 := g 2
  simp only [gcol, scale, if_neg (show ¬ (0 : Fin 4) = 2 by decide), if_neg (show ¬ (1 : Fin 4) = 2 by decide), if_true, one_mul] at g0 g1 g2
  unfold cellC
  rw [← half_tanh_half, ← half_tanh_half, ← g0, ← g1, ← g2]
  simp only [Fin.val_zero, Fin.val_one, Fin.val_two, mul_zero, zero_add, mul_one, Nat.reduceMul]

/-- The next hidden state. -/
theorem hNew_apply (hW : Paired w b Wi Wh bias) (h c : FVec Ideal S512x128 .f32) (x : Vec Ideal S1x512x128 .bf16)
    (p : Fin 512) (s : Fin 2) (j : Fin 64) :
    hNew (gates (biasRow b) h x w) c (ix2 p (lane s j))
      = cellH Wi Wh bias (fun k => x (ix3 0 p (lane s k))) (fun k => h (ix2 p (lane s k))) (fun k => c (ix2 p (lane s k))) j := by
  pointwise [hNew]
  rw [cNew_apply hW, sg_apply]
  pointwise
  have g3 := gates_apply hW h x p 3 s j
  simp only [gcol, scale, if_neg (show ¬ (3 : Fin 4) = 2 by decide)] at g3
  unfold cellH
  rw [← half_tanh_half, ← g3]
  rfl

/-- What the packed attention weights hold: both directions' halved weights, and zero where a word's row meets the other
    word's column. -/
structure PairedAttn (ones : Vec Ideal S256x128 .bf16) (af ar : Fin 64 → EReal) : Prop where
  fwd : ∀ (s s' : Fin 2) (j k : Fin 64),
    ones (ix2 ⟨(lane s' k).val, by have := (lane s' k).isLt; omega⟩ (lane s j)) = if s' = s then af k * half else 0
  rev : ∀ (s s' : Fin 2) (j k : Fin 64),
    ones (ix2 ⟨128 + (lane s' k).val, by have := (lane s' k).isLt; omega⟩ (lane s j)) = if s' = s then ar k * half else 0

/-- The gate of a character. -/
theorem att_apply {ones : Vec Ideal S256x128 .bf16} {af ar : Fin 64 → EReal} (hO : PairedAttn ones af ar)
    (f r : FVec Ideal S512x128 .f32) (p : Fin 512) (s : Fin 2) (j : Fin 64) :
    att f r ones (ix2 p (lane s j)) = Spec.att af ar (fun k => f (ix2 p (lane s k))) (fun k => r (ix2 p (lane s k))) := by
  unfold att
  rw [sg_apply]
  pointwise
  rw [sum_paired 0 s (fun k => f (ix2 p k)) (fun k => ones (ix2 ⟨k.val, by have := k.isLt; omega⟩ (lane s j))) af
    (fun s' k => hO.fwd s s' j k)]
  rw [sum_paired 0 s (fun k => r (ix2 p k)) (fun k => ones (ix2 ⟨128 + k.val, by have := k.isLt; omega⟩ (lane s j))) ar
    (fun s' k => hO.rev s s' j k)]
  rw [← scale_mul_add]
  exact half_tanh_half _

end Cert.KernelIdeal.Body

end
-- ==== Proof.KTable.lean ====
module

public import proofs.«01_k».proof.KernelIdeal

@[expose] public section

set_option maxRecDepth 16384

/-!
The constant table of the kernel's attention matrix.
-/

namespace Cert.KernelIdeal.Host

open Cert.KernelIdeal

/-- The table's entry in row `r` and column `c`: the bits of one where both lie in the same half, of zero elsewhere. -/
theorem lit0_eq : ∀ r c : Fin 128, lit0 ⟨128 * r.val + c.val, by have := r.isLt; have := c.isLt; show _ < 128 * 128; omega⟩
    = if r.val / 64 = c.val / 64 then 0x3F800000#32 else 0#32 := by
  decide +kernel

end Cert.KernelIdeal.Host
-- ==== Proof.KArr.lean ====
module

public import proofs.«01_k».proof.Proof.KHost
public import proofs.«01_k».proof.Proof.KPoint
public import proofs.«01_k».proof.Proof.KTable
public import Idealize.ShloMosaic.Lib.Routing.OpsOne
public import Idealize.ShloMosaic.Lib.Routing.OpsSet

@[expose] public section

set_option maxRecDepth 16384

noncomputable section

/-!
The host's arrays entry by entry on extended reals.
-/

namespace Cert.KernelIdeal.Host

open Idealize.ShloMosaic Idealize.ShloMosaic.TcCoe
open Idealize.ShloMosaic.Routing
open Cert.KernelIdeal Cert.KernelIdeal.Gen Cert.Spec

/-! ## Setting a block of a matrix -/

/-- A scatter that sets one block of a matrix, read at an entry: the block's entry inside the block, the matrix's outside. -/
theorem scatter_block {α : Type} {R C A B : ℕ} {si : Shape} (d : ScatterDims (shape2 R C) si (shape2 A B)) (idx : IVec si 32)
    (r0 c0 : ℕ) (hs0 : ∀ k, d.start k idx 0 = r0) (hs1 : ∀ k, d.start k idx 1 = c0)
    (hw0 : ∀ k, d.window k 0 = (k 0).val) (hw1 : ∀ k, d.window k 1 = (k 1).val)
    (x0 : (shape2 R C).Idx → α) (upd : (shape2 A B).Idx → α) (r : Fin R) (c : Fin C) :
    Host.scatter d (fun _ b => b) x0 idx upd (ix2 r c)
      = if h : (r0 ≤ r.val ∧ r.val < r0 + A) ∧ (c0 ≤ c.val ∧ c.val < c0 + B) then
          upd (ix2 ⟨r.val - r0, by omega⟩ ⟨c.val - c0, by omega⟩)
        else x0 (ix2 r c) := by
  have key : ∀ k, d.resultIdx? k idx = some (ix2 r c) ↔ r0 + (k 0).val = r.val ∧ c0 + (k 1).val = c.val := by
    intro k
    refine (resultIdx?_ix2 d k idx r c).trans ?_
    rw [hs0, hs1, hw0, hw1]
    omega
  split
  · next h =>
    refine scatter_set_hit d x0 idx upd (ix2 r c) _ ?_ (ix2 ⟨r.val - r0, by omega⟩ ⟨c.val - c0, by omega⟩) ?_
    · intro k hk
      obtain ⟨e0, e1⟩ := (key k).1 hk
      congr 1
      funext a
      match a with
      | 0 => exact Fin.ext (by show (k 0).val = r.val - r0; omega)
      | 1 => exact Fin.ext (by show (k 1).val = c.val - c0; omega)
    · refine (key _).2 ⟨?_, ?_⟩
      · show r0 + (r.val - r0) = r.val; omega
      · show c0 + (c.val - c0) = c.val; omega
  · next h =>
    refine scatter_set_miss d x0 idx upd (ix2 r c) ?_
    intro k hk
    obtain ⟨e0, e1⟩ := (key k).1 hk
    have h0 : (k 0).val < A := (k 0).isLt
    have h1 : (k 1).val < B := (k 1).isLt
    exact h (by omega)

theorem word2_0 (r c : BitVec 32) : word2 r c (ix1 0) = r := by pointwise [word2, word1, catWord]
theorem word2_1 (r c : BitVec 32) : word2 r c (ix1 1) = c := by pointwise [word2, word1, catWord]

theorem toInt_ofNat (n : ℕ) (h : n < 2 ^ 31) : (BitVec.ofNat 32 n).toInt = n := by
  rw [BitVec.toInt_eq_toNat_of_lt (by rw [BitVec.toNat_ofNat]; omega), BitVec.toNat_ofNat, Nat.mod_eq_of_lt (by omega)]

/-- The packed weights' matrix with a block set. -/
theorem put_apply (x : FVec Ideal S256x512 .f32) (r0 c0 : ℕ) (hr : r0 < 2 ^ 31) (hc : c0 < 2 ^ 31) (blk : FVec Ideal S64x64 .f32)
    (r : Fin 256) (c : Fin 512) :
    put x (BitVec.ofNat 32 r0) (BitVec.ofNat 32 c0) blk (ix2 r c)
      = if h : (r0 ≤ r.val ∧ r.val < r0 + 64) ∧ (c0 ≤ c.val ∧ c.val < c0 + 64) then
          blk (ix2 ⟨r.val - r0, by omega⟩ ⟨c.val - c0, by omega⟩)
        else x (ix2 r c) :=
  scatter_block scatter_S256x512_S2_S64x64_01_n_01_0 _ r0 c0
    (fun k => (start_pair scatter_S256x512_S2_S64x64_01_n_01_0 rfl rfl _ k 0).trans ((congrArg BitVec.toInt (word2_0 _ _)).trans (toInt_ofNat r0 hr)))
    (fun k => (start_pair scatter_S256x512_S2_S64x64_01_n_01_0 rfl rfl _ k 1).trans ((congrArg BitVec.toInt (word2_1 _ _)).trans (toInt_ofNat c0 hc)))
    (fun k => rfl) (fun k => rfl) x blk r c

end Cert.KernelIdeal.Host

end
-- ==== Proof.KEntries.lean ====
module

public import proofs.«01_k».proof.Proof.KArr

@[expose] public section

set_option maxRecDepth 16384

/-!
The kernel's arrays over the extended reals, entry by entry: the packed weights are both words' scaled weights, the padded
tables the embedding table on the diagonal, the packed columns the two words' indices and lengths.
-/

noncomputable section

namespace Cert.KernelIdeal.Host

open Idealize.ShloMosaic Idealize.ShloMosaic.TcCoe Idealize.ShloMosaic.Tactic
open Idealize.ShloMosaic.Routing
open Cert.KernelIdeal Cert.KernelIdeal.Gen Cert.KernelIdeal.Body Cert.Spec

/-! ## The recurrent weights -/

/-- The scale of a gate. -/
theorem scales_apply (q : Fin 4) (j : Fin 64) : scales (F := Ideal) (ix1 (row q j)) = scale q := by
  have hj := j.isLt
  match q with
  | 0 =>
    pointwise [scales, catGates]
    rw [dif_pos (show (row 0 j).val < 64 by simp only [row]; omega)]
    exact ofBits_half
  | 1 =>
    pointwise [scales, catGates]
    rw [dif_neg (show ¬ (row 1 j).val < 64 by simp only [row]; omega), dif_pos (show (row 1 j).val - 64 < 64 by simp only [row]; omega)]
    exact ofBits_half
  | 2 =>
    pointwise [scales, catGates]
    rw [dif_neg (show ¬ (row 2 j).val < 64 by simp only [row]; omega), dif_neg (show ¬ (row 2 j).val - 64 < 64 by simp only [row]; omega),
      dif_pos (show (row 2 j).val - 64 - 64 < 64 by simp only [row]; omega)]
    rfl
  | 3 =>
    pointwise [scales, catGates]
    rw [dif_neg (show ¬ (row 3 j).val < 64 by simp only [row]; omega), dif_neg (show ¬ (row 3 j).val - 64 < 64 by simp only [row]; omega),
      dif_neg (show ¬ (row 3 j).val - 64 - 64 < 64 by simp only [row]; omega)]
    exact ofBits_half

/-- A row of the input's weights. -/
theorem wcat_input (wi wh : FVec Ideal S256x64 .f32) (q : Fin 4) (k j : Fin 64) :
    wcat wi wh (ix2 ⟨k.val, by omega⟩ (row q j)) = wi (ix2 (row q j) k) * scale q := by
  pointwise [wcat, catWeights]
  rw [scales_apply]

/-- A row of the state's weights. -/
theorem wcat_state (wi wh : FVec Ideal S256x64 .f32) (q : Fin 4) (k j : Fin 64) :
    wcat wi wh (ix2 ⟨64 + k.val, by omega⟩ (row q j)) = wh (ix2 (row q j) k) * scale q := by
  pointwise [wcat, catWeights]
  rw [scales_apply]

/-- The row of the packed weights for the input (`u = 0`) or the state (`u = 1`) of word `s`. -/
def prow (u s : Fin 2) (k : Fin 64) : Fin 256 := ⟨128 * u.val + (lane s k).val, by have := (lane s k).isLt; omega⟩

/-- A matrix with one gate's blocks set: the gate's columns where row and column belong to the same word. -/
theorem putGate_apply (b : FVec Ideal S128x64 .f32) (q0 : Fin 4) (c0 : ℕ) (hc0 : c0 = 128 * q0.val) (x : FVec Ideal S256x512 .f32)
    (u s' : Fin 2) (k : Fin 64) (q : Fin 4) (s : Fin 2) (j : Fin 64) :
    putGate b c0 x (ix2 (prow u s' k) (gcol q s j))
      = if q = q0 ∧ s' = s then b (ix2 ⟨64 * u.val + k.val, by omega⟩ j) else x (ix2 (prow u s' k) (gcol q s j)) := by
  have hr : (prow u s' k).val = 128 * u.val + (64 * s'.val + k.val) := rfl
  have hc : (gcol q s j).val = 128 * q.val + (64 * s.val + j.val) := rfl
  have hk := k.isLt
  have hj := j.isLt
  have hq0 := q0.isLt
  simp only [putGate]
  rw [put_apply _ 192 (c0 + 64) (by omega) (by omega), put_apply _ 64 (c0 + 64) (by omega) (by omega),
    put_apply _ 128 c0 (by omega) (by omega), put_apply _ 0 c0 (by omega) (by omega)]
  by_cases hh : q = q0 ∧ s' = s
  · rw [if_pos hh]
    obtain ⟨rfl, rfl⟩ := hh
    pointwise
    match u, s' with
    | 0, 0 =>
      rw [dif_neg (by omega), dif_neg (by omega), dif_neg (by omega), dif_pos (by omega)]
      congr 2 <;> apply Fin.ext <;> simp only [hr, hc] <;> omega
    | 0, 1 =>
      rw [dif_neg (by omega), dif_pos (by omega)]
      congr 2 <;> apply Fin.ext <;> simp only [hr, hc] <;> omega
    | 1, 0 =>
      rw [dif_neg (by omega), dif_neg (by omega), dif_pos (by omega)]
      congr 2 <;> apply Fin.ext <;> simp only [hr, hc] <;> omega
    | 1, 1 =>
      rw [dif_pos (by omega)]
      congr 2 <;> apply Fin.ext <;> simp only [hr, hc] <;> omega
  · rw [if_neg hh]
    have hh' : ¬ (q.val = q0.val ∧ s'.val = s.val) := fun e => hh ⟨Fin.ext e.1, Fin.ext e.2⟩
    rw [dif_neg (by omega), dif_neg (by omega), dif_neg (by omega), dif_neg (by omega)]

/-- The packed weights: a word's weights where row and column belong to it, zero where they belong to different words. -/
theorem pairCols_apply (w : FVec Ideal S128x256 .f32) (u s' : Fin 2) (k : Fin 64) (q : Fin 4) (s : Fin 2) (j : Fin 64) :
    pairCols w (ix2 (prow u s' k) (gcol q s j)) = if s' = s then w (ix2 ⟨64 * u.val + k.val, by omega⟩ (row q j)) else 0 := by
  pointwise [pairCols]
  rw [putGate_apply _ 3 384 rfl, putGate_apply _ 2 256 rfl, putGate_apply _ 1 128 rfl, putGate_apply _ 0 0 rfl]
  pointwise
  by_cases hs : s' = s
  · match q with
    | 0 => simp [hs, row]
    | 1 => simp [hs, row]
    | 2 => simp [hs, row]
    | 3 => simp [hs, row]
  · simp [hs]

/-- The packed bias of one direction. -/
theorem pairBias_apply (b1 b2 : FVec Ideal S256 .f32) (q : Fin 4) (s : Fin 2) (j : Fin 64) :
    pairBias b1 b2 (ix1 (gcol q s j)) = (b1 (ix1 (row q j)) + b2 (ix1 (row q j))) * scale q := by
  have hj := j.isLt
  have key : pairBias b1 b2 (ix1 (gcol q s j)) = (b1 (ix1 (row q j)) + b2 (ix1 (row q j))) * scales (F := Ideal) (ix1 (row q j)) := by
    have fin (q : Fin 4) (r : Fin 256) (hr : r.val = 64 * q.val + j.val) :
        (b1 (ix1 r) + b2 (ix1 r)) * scales (F := Ideal) (ix1 r) = (b1 (ix1 (row q j)) + b2 (ix1 (row q j))) * scales (F := Ideal) (ix1 (row q j)) := by
      rw [show r = row q j from Fin.ext hr]
    have e : gcol q s j = ⟨128 * q.val + (64 * s.val + j.val), by omega⟩ := rfl
    rw [e]
    match q, s with
    | 0, 0 | 0, 1 | 1, 0 | 1, 1 | 2, 0 | 2, 1 | 3, 0 | 3, 1 =>
      pointwise [pairBias, catGates2, twice, cat64]
      split_ifs <;> first | (exfalso; omega) | (refine fin _ _ ?_; first | omega | (simp; done) | (simp; omega))
  rw [key, scales_apply]

/-! ## The embedding table -/

/-- The padded table's rows above the padding. -/
theorem embPad_apply (e : FVec Ideal S262x64 .f32) (a : ℕ) (ha : a < 262) (k : Fin 64) :
    embPad e (ix2 ⟨a, by omega⟩ k) = e (ix2 ⟨a, ha⟩ k) := by
  refine (scatter_block scatter_S264x64_S1_S262x64_01_n_0_0 _ 0 0 ?_ ?_ (fun k => rfl) (fun k => rfl) _ e ⟨a, by omega⟩ k).trans ?_
  · intro k
    rfl
  · intro k
    rfl
  · rw [dif_pos ⟨⟨Nat.zero_le _, by simp; omega⟩, ⟨Nat.zero_le _, by simp⟩⟩]
    rfl

/-- A matrix with the padded table set into it. -/
theorem putTable_apply (x : FVec Ideal S528x128 .f32) (r0 c0 : ℕ) (hr : r0 < 2 ^ 31) (hc : c0 < 2 ^ 31) (blk : FVec Ideal S264x64 .f32)
    (r : Fin 528) (c : Fin 128) :
    Host.scatter scatter_S528x128_S2_S264x64_01_n_01_0 (fun _ b => b) x (word2 (BitVec.ofNat 32 r0) (BitVec.ofNat 32 c0)) blk (ix2 r c)
      = if h : (r0 ≤ r.val ∧ r.val < r0 + 264) ∧ (c0 ≤ c.val ∧ c.val < c0 + 64) then
          blk (ix2 ⟨r.val - r0, by omega⟩ ⟨c.val - c0, by omega⟩)
        else x (ix2 r c) :=
  scatter_block scatter_S528x128_S2_S264x64_01_n_01_0 _ r0 c0
    (fun k => (start_pair scatter_S528x128_S2_S264x64_01_n_01_0 rfl rfl _ k 0).trans ((congrArg BitVec.toInt (word2_0 _ _)).trans (toInt_ofNat r0 hr)))
    (fun k => (start_pair scatter_S528x128_S2_S264x64_01_n_01_0 rfl rfl _ k 1).trans ((congrArg BitVec.toInt (word2_1 _ _)).trans (toInt_ofNat c0 hc)))
    (fun k => rfl) (fun k => rfl) x blk r c

/-- The table on the diagonal: a character's row where row and column belong to the same word, zero elsewhere. -/
theorem emb2_apply (e : FVec Ideal S262x64 .f32) (s s' : Fin 2) (a : ℕ) (ha : a < 262) (k : Fin 64) :
    emb2 e (ix2 ⟨264 * s'.val + a, by have := s'.isLt; omega⟩ (lane s k)) = if s' = s then e (ix2 ⟨a, ha⟩ k) else 0 := by
  have hc : (lane s k).val = 64 * s.val + k.val := rfl
  have hk := k.isLt
  pointwise [emb2]
  rw [putTable_apply _ 264 64 (by omega) (by omega), putTable_apply _ 0 0 (by omega) (by omega)]
  pointwise
  match s', s with
  | 0, 0 =>
    rw [dif_neg (by simp; omega), dif_pos (by simp; omega), if_pos rfl]
    exact (congrArg (embPad e) (by congr 2 <;> simp [lane])).trans (embPad_apply e a ha k)
  | 0, 1 =>
    rw [dif_neg (by simp; omega), dif_neg (by simp [lane]), if_neg (by simp)]
  | 1, 0 =>
    rw [dif_neg (by simp [lane]), dif_neg (by simp), if_neg (by simp)]
  | 1, 1 =>
    rw [dif_pos (by simp [lane]; omega), if_pos rfl]
    exact (congrArg (embPad e) (by congr 2 <;> simp [lane])).trans (embPad_apply e a ha k)

/-! ## The attention weights -/

/-- The table of ones and zeros. -/
theorem sameWord_apply (s s' : Fin 2) (j k : Fin 64) : sameWord (F := Ideal) (ix2 (lane s' k) (lane s j)) = if s' = s then 1 else 0 := by
  have hj := j.isLt
  have hk := k.isLt
  have e := lit0_eq (lane s' k) (lane s j)
  have e' : sameWord (F := Ideal) (ix2 (lane s' k) (lane s j)) = Ideal.ofBits .f32 (if (lane s' k).val / 64 = (lane s j).val / 64 then 0x3F800000#32 else 0#32) := by
    rw [← e]
    refine congrArg (Ideal.ofBits .f32) (congrArg lit0 ?_)
    apply Fin.ext
    show (Shape.rowMajorPi ![128, 128] (ix2 (lane s' k) (lane s j))).val = _
    rw [Shape.rowMajorPi_succ_val, Shape.rowMajorPi_succ_val, Shape.rowMajorPi_zero]
    show (lane s' k).val * 128 + ((lane s j).val * 1 + 0) = 128 * (lane s' k).val + (lane s j).val
    omega
  rw [e']
  have h1 : (lane s' k).val / 64 = s'.val := by simp only [lane]; omega
  have h2 : (lane s j).val / 64 = s.val := by simp only [lane]; omega
  rw [h1, h2]
  by_cases h : s' = s
  · rw [if_pos (congrArg Fin.val h), if_pos h]
    exact Ideal.ofBits_one_f32
  · rw [if_neg (fun x => h (Fin.ext x)), if_neg h]
    exact Ideal.ofBits_zero_f32

/-- The packed attention weights. -/
theorem onesBd_paired (a : FVec Ideal S1x128 .f32) :
    PairedAttn (onesBd a) (fun k => a (ix2 0 (lane 0 k))) (fun k => a (ix2 0 (lane 1 k))) where
  fwd s s' j k := by
    have hk := k.isLt
    pointwise [onesBd, catSquares, diag, attn2, catRows, twice, cat64]
    rw [sameWord_apply, ofBits_half]
    have e : (if h : (lane s' k).val < 64 then a (ix2 0 (lane s' k)) else a (ix2 0 ⟨(lane s' k).val - 64, by have := (lane s' k).isLt; omega⟩))
        = a (ix2 0 (lane 0 k)) := by
      match s' with
      | 0 => rw [dif_pos (by simp [lane])]
      | 1 =>
        rw [dif_neg (by simp [lane])]
        exact congrArg (fun l => a (ix2 0 l)) (Fin.ext (by simp [lane]))
    refine (congrArg (fun v => half * v * _) e).trans ?_
    by_cases h : s' = s
    · rw [if_pos h, if_pos h, mul_one, mul_comm]
    · rw [if_neg h, if_neg h, mul_zero]
  rev s s' j k := by
    have hk := k.isLt
    pointwise [onesBd, catSquares, diag, attn2, catRows, twice, cat64]
    rw [sameWord_apply, ofBits_half]
    have e : (if h : (lane s' k).val < 64 then a (ix2 0 ⟨64 + (lane s' k).val, by omega⟩)
          else a (ix2 0 ⟨64 + ((lane s' k).val - 64), by have := (lane s' k).isLt; omega⟩))
        = a (ix2 0 (lane 1 k)) := by
      match s' with
      | 0 =>
        rw [dif_pos (by simp [lane])]
        exact congrArg (fun l => a (ix2 0 l)) (Fin.ext (by simp [lane]))
      | 1 =>
        rw [dif_neg (by simp [lane])]
        exact congrArg (fun l => a (ix2 0 l)) (Fin.ext (by simp [lane]))
    refine (congrArg (fun v => half * v * _) e).trans ?_
    by_cases h : s' = s
    · rw [if_pos h, if_pos h, mul_one, mul_comm]
    · rw [if_neg h, if_neg h, mul_zero]

/-! ## The start states, the indices and the lengths -/

/-- A vector laid out twice in a row, read at a lane. -/
theorem lane_twice {α : Type} (f : Fin 64 → α) (s : Fin 2) (j : Fin 64) :
    (if h : (lane s j).val < 64 then f ⟨(lane s j).val, h⟩ else f ⟨(lane s j).val - 64, by have := (lane s j).isLt; omega⟩) = f j := by
  have hj := j.isLt
  match s with
  | 0 =>
    rw [dif_pos (by simp [lane])]
    exact congrArg f (Fin.ext (by simp [lane]))
  | 1 =>
    rw [dif_neg (by simp [lane])]
    exact congrArg f (Fin.ext (by simp [lane]))

/-- A start state's entry, the same for both words. -/
theorem starts_apply (h c : FVec Ideal S2x1x64 .f32) (s : Fin 2) (j : Fin 64) :
    starts h c (ix2 0 (lane s j)) = h (ix3 0 0 j) ∧ starts h c (ix2 1 (lane s j)) = c (ix3 0 0 j)
      ∧ starts h c (ix2 2 (lane s j)) = h (ix3 1 0 j) ∧ starts h c (ix2 3 (lane s j)) = c (ix3 1 0 j) := by
  refine ⟨?_, ?_, ?_, ?_⟩ <;> pointwise [starts, startTwice, catStarts, twice, cat64]
  · exact lane_twice (fun j => h (ix3 0 0 j)) s j
  · exact lane_twice (fun j => c (ix3 0 0 j)) s j
  · exact lane_twice (fun j => h (ix3 1 0 j)) s j
  · exact lane_twice (fun j => c (ix3 1 0 j)) s j

/-- An index of a word of a pair. -/
theorem colpack_index (ci : IVec S16x512x20 32) (tl : IVec S16x512 32) (R : Fin 4096) (s : Fin 2) (t : Fin 20) :
    colpack ci tl (ix2 R ⟨20 * s.val + t.val, by omega⟩) = ci (ix3 ⟨R.val / 512 * 2 + s.val, by omega⟩ ⟨R.val % 512, by omega⟩ t) := by
  match s with
  | 0 | 1 => pointwise [colpack, catCols]

/-- The length of a word of a pair. -/
theorem colpack_length (ci : IVec S16x512x20 32) (tl : IVec S16x512 32) (R : Fin 4096) (s : Fin 2) :
    colpack ci tl (ix2 R ⟨40 + s.val, by omega⟩) = tl (ix2 ⟨R.val / 512 * 2 + s.val, by omega⟩ ⟨R.val % 512, by omega⟩) := by
  match s with
  | 0 | 1 => pointwise [colpack, catCols]

/-! ## The packed arrays -/

/-- The weights and bias of one direction are packed as the body reads them. -/
theorem paired (wi wh : FVec Ideal S256x64 .f32) (b1 b2 : FVec Ideal S256 .f32) (b : Vec Ideal S1x512 .f32)
    (hb : ∀ c, b (ix2 0 c) = pairBias b1 b2 (ix1 c)) :
    Paired (pairCols (wcat wi wh)) b (fun g k => wi (ix2 g k)) (fun g k => wh (ix2 g k)) (fun g => b1 (ix1 g) + b2 (ix1 g)) where
  input q s s' j k := by
    have e : (⟨(lane s' k).val, by have := (lane s' k).isLt; omega⟩ : Fin 256) = prow 0 s' k := Fin.ext (by simp [prow])
    rw [e, pairCols_apply, ← wcat_input wi wh q k j]
    exact congrArg (fun i => if s' = s then wcat wi wh (ix2 i (row q j)) else 0) (Fin.ext (by simp))
  state q s s' j k := by
    have e : (⟨128 + (lane s' k).val, by have := (lane s' k).isLt; omega⟩ : Fin 256) = prow 1 s' k := Fin.ext (by simp [prow])
    rw [e, pairCols_apply, ← wcat_state wi wh q k j]
    exact congrArg (fun i => if s' = s then wcat wi wh (ix2 i (row q j)) else 0) (Fin.ext (by simp))
  bias q s j := by rw [hb, pairBias_apply]

/-- The two directions' biases are the two rows. -/
theorem biases_apply (b1 b2 b3 b4 : FVec Ideal S256 .f32) (c : Fin 512) :
    biases b1 b2 b3 b4 (ix2 0 c) = pairBias b1 b2 (ix1 c) ∧ biases b1 b2 b3 b4 (ix2 1 c) = pairBias b3 b4 (ix1 c) := by
  constructor <;> pointwise [biases, catBias]

end Cert.KernelIdeal.Host

end
-- ==== Proof.KBridge.lean ====
module

public import proofs.«01_k».proof.Proof.KBody

@[expose] public section

set_option maxRecDepth 16384

noncomputable section

/-!
The stores the body's run makes are those of the recursion in `KBody`, of the loads through whole memrefs.
-/

namespace Cert.KernelIdeal.Body

open Idealize.ShloMosaic Idealize.ShloMosaic.TcCoe Idealize.ShloMosaic.Tactic
open Idealize.SL Idealize.SL.Sem
open Cert.KernelIdeal Cert.KernelIdeal.Gen

variable {F : FTy → Type} [FloatOps F]

section Run
variable (c : Dev nD) (i : grid0.Coords) (arg1 : Memref sig .tc .vmem S512x64 .i32) (harg1 : arg1.IsWhole) (arg2 : Memref sig .tc .vmem S528x128 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S2x512 .f32) (harg5 : arg5.IsWhole) (arg6 : Memref sig .tc .vmem S256x128 .bf16) (harg6 : arg6.IsWhole) (arg7 : Memref sig .tc .vmem S4x128 .f32) (harg7 : arg7.IsWhole) (arg8 : Memref sig .tc .vmem S1024x128 .f32) (harg8 : arg8.IsWhole) (arg9 : Memref sig .tc .vmem S20x512x128 .bf16) (harg9 : arg9.IsWhole) (arg10 : Memref sig .tc .vmem S20x512x128 .f32) (harg10 : arg10.IsWhole)
  (x0 : Vec F S512x64 .i32) (x1 : Vec F S528x128 .bf16) (x2 : Vec F S256x512 .bf16) (x3 : Vec F S256x512 .bf16) (x4 : Vec F S2x512 .f32) (x5 : Vec F S256x128 .bf16) (x6 : Vec F S4x128 .f32)

/-- The body's loads, through its memrefs. -/
def loads : Loads F where
  col k := View.readAt (Elt F) arg1.view (Rect.unit (s := S512x64) ![0, k % 64] S512x1.size (inb_col k)).toLoadRect (harg1.unread x0)
  emb := View.readAt (Elt F) arg2.view (Rect.unit (s := S528x128) ![0, 0] S528x128.size inb_S528x128_S528x128_0_0).toLoadRect (harg2.unread x1)
  wf := View.readAt (Elt F) arg3.view (Rect.unit (s := S256x512) ![0, 0] S256x512.size inb_S256x512_S256x512_0_0).toLoadRect (harg3.unread x2)
  wr := View.readAt (Elt F) arg4.view (Rect.unit (s := S256x512) ![0, 0] S256x512.size inb_S256x512_S256x512_0_0).toLoadRect (harg4.unread x3)
  bf := View.readAt (Elt F) arg5.view (Rect.unit (s := S2x512) ![0, 0] S1x512.size inb_S2x512_S1x512_0_0).toLoadRect (harg5.unread x4)
  br := View.readAt (Elt F) arg5.view (Rect.unit (s := S2x512) ![1, 0] S1x512.size inb_S2x512_S1x512_1_0).toLoadRect (harg5.unread x4)
  ones := View.readAt (Elt F) arg6.view (Rect.unit (s := S256x128) ![0, 0] S256x128.size inb_S256x128_S256x128_0_0).toLoadRect (harg6.unread x5)
  start k := View.readAt (Elt F) arg7.view (Rect.unit (s := S4x128) ![k % 4, 0] S1x128.size (inb_start k)).toLoadRect (harg7.unread x6)

/-- The stored embedding rows, as the body loads them. -/
def xLoad (I : Loads F) (t : ℕ) : Vec F S1x512x128 .bf16 := arg9.view.readCov (xPieces I 20) (plane t).toLoadRect

/-- The stored forward outputs, as the body loads them. -/
def fLoad (I : Loads F) (t : ℕ) : Vec F S1x512x128 .f32 :=
  arg10.view.readCov (fPieces I (xLoad arg9 I) 20) (plane t).toLoadRect

set_option maxHeartbeats 4000000 in
/-- The body's run stores the pieces of the recursion. -/
theorem run_pieces :
    (kernelRun0_A c i arg1 harg1 arg2 harg2 arg3 harg3 arg4 harg4 arg5 harg5 arg6 harg6 arg7 harg7 arg8 harg8 arg9 harg9 arg10 harg10 x0 x1 x2 x3 x4 x5 x6).1
      = outPieces
          (back (loads arg1 harg1 arg2 harg2 arg3 harg3 arg4 harg4 arg5 harg5 arg6 harg6 arg7 harg7 x0 x1 x2 x3 x4 x5 x6)
            (xLoad arg9 (loads arg1 harg1 arg2 harg2 arg3 harg3 arg4 harg4 arg5 harg5 arg6 harg6 arg7 harg7 x0 x1 x2 x3 x4 x5 x6))
            (fLoad arg9 arg10 (loads arg1 harg1 arg2 harg2 arg3 harg3 arg4 harg4 arg5 harg5 arg6 harg6 arg7 harg7 x0 x1 x2 x3 x4 x5 x6)) 20).accF
          (back (loads arg1 harg1 arg2 harg2 arg3 harg3 arg4 harg4 arg5 harg5 arg6 harg6 arg7 harg7 x0 x1 x2 x3 x4 x5 x6)
            (xLoad arg9 (loads arg1 harg1 arg2 harg2 arg3 harg3 arg4 harg4 arg5 harg5 arg6 harg6 arg7 harg7 x0 x1 x2 x3 x4 x5 x6))
            (fLoad arg9 arg10 (loads arg1 harg1 arg2 harg2 arg3 harg3 arg4 harg4 arg5 harg5 arg6 harg6 arg7 harg7 x0 x1 x2 x3 x4 x5 x6)) 20).accR := by
  sl_kernel_rfl

end Run

end Cert.KernelIdeal.Body

end
-- ==== Proof.KRun.lean ====
module

public import proofs.«01_k».proof.Proof.KPoint

@[expose] public section

set_option maxRecDepth 16384

noncomputable section

/-!
The kernel's two passes over the characters are the specification's recurrences, word by word.
-/

namespace Cert.KernelIdeal.Body

open Idealize.ShloMosaic Idealize.ShloMosaic.TcCoe
open Cert.KernelIdeal Cert.KernelIdeal.Gen Cert.Spec

/-- What the loads of one block hold: the model's weights in their packed forms, and for the word in half `s` of row `p` its
    characters' indices and its length. -/
structure Holds (I : Loads Ideal) (M : Model) (idx : Fin 512 → Fin 2 → ℕ → ℕ) (n : Fin 512 → Fin 2 → BitVec 32) : Prop where
  idx_lt : ∀ p s t, t < 20 → idx p s t < 262
  col : ∀ p (s : Fin 2) t, t < 20 → I.col (20 * s.val + t) (ix2 p 0) = BitVec.ofNat 32 (idx p s t)
  len : ∀ p (s : Fin 2), I.col (40 + s.val) (ix2 p 0) = n p s
  emb : ∀ (s s' : Fin 2) (a : ℕ) (ha : a < 262) (k : Fin 64),
    I.emb (ix2 ⟨264 * s'.val + a, by have := s'.isLt; omega⟩ (lane s k)) = if s' = s then M.emb a k else 0
  wf : Paired I.wf I.bf M.Wif M.Whf M.bf
  wr : Paired I.wr I.br M.Wir M.Whr M.br
  ones : PairedAttn I.ones M.af M.ar
  start0 : ∀ (s : Fin 2) (j : Fin 64), I.start 0 (ix2 0 (lane s j)) = M.h0f j
  start1 : ∀ (s : Fin 2) (j : Fin 64), I.start 1 (ix2 0 (lane s j)) = M.c0f j
  start2 : ∀ (s : Fin 2) (j : Fin 64), I.start 2 (ix2 0 (lane s j)) = M.h0r j
  start3 : ∀ (s : Fin 2) (j : Fin 64), I.start 3 (ix2 0 (lane s j)) = M.c0r j

variable {I : Loads Ideal} {M : Model} {idx : Fin 512 → Fin 2 → ℕ → ℕ} {n : Fin 512 → Fin 2 → BitVec 32}
  {xs : ℕ → Vec Ideal S1x512x128 .bf16} {fs : ℕ → Vec Ideal S1x512x128 .f32}

/-- A stored embedding row: the model's row of the character. -/
theorem Holds.xRow (H : Holds I M idx n) (t : ℕ) (ht : t < 20) (p : Fin 512) (s : Fin 2) (k : Fin 64) :
    Body.xRow (I.col t) (I.col (20 + t)) I.emb (ix3 0 p (lane s k)) = M.emb (idx p s t) k := by
  have h0 := H.col p 0 t ht
  have h1 := H.col p 1 t ht
  rw [show 20 * (0 : Fin 2).val + t = t by simp] at h0
  rw [show 20 * (1 : Fin 2).val + t = 20 + t by simp] at h1
  have l0 := H.idx_lt p 0 t ht
  have l1 := H.idx_lt p 1 t ht
  rw [xRow_apply _ _ _ p _ (idx p 0 t) (idx p 1 t) (by omega) (by omega) h0 h1]
  have e0 := H.emb s 0 _ l0 k
  have e1 := H.emb s 1 _ l1 k
  simp only [Fin.val_zero, Fin.val_one, mul_zero, zero_add, mul_one] at e0 e1
  rw [e0, e1]
  match s with
  | 0 => rw [if_pos rfl, if_neg (by decide), add_zero]
  | 1 => rw [if_neg (by decide), if_pos rfl, zero_add]

theorem Holds.lenMat (H : Holds I M idx n) (p : Fin 512) (s : Fin 2) (j : Fin 64) :
    Body.len I (ix2 p (lane s j)) = n p s := by
  have h0 := H.len p 0
  have h1 := H.len p 1
  simp only [Fin.val_zero, Fin.val_one, add_zero] at h0 h1
  show Body.lenMat (F := Ideal) (I.col 40) (I.col 41) _ = _
  rw [lenMat_apply, h0, h1]
  match s with
  | 0 => rfl
  | 1 => rfl

/-- The first scratch buffer's planes hold the characters' embedding rows. -/
def XOk (I : Loads Ideal) (xs : ℕ → Vec Ideal S1x512x128 .bf16) : Prop :=
  ∀ t, t < 20 → xs t = Body.xRow (I.col t) (I.col (20 + t)) I.emb

/-- The forward pass. -/
theorem Holds.fwd (H : Holds I M idx n) (hx : XOk I xs) (p : Fin 512) (s : Fin 2) (t : ℕ) (ht : t ≤ 20) :
    (fun j => (Body.fwd I xs t).1 (ix2 p (lane s j)), fun j => (Body.fwd I xs t).2 (ix2 p (lane s j)))
      = stU M.Wif M.Whf M.bf M.h0f M.c0f (fun i => M.emb (idx p s i)) t := by
  induction t with
  | zero =>
    refine Prod.ext (funext fun j => ?_) (funext fun j => ?_)
    · show startRow (I.start 0) _ = _
      rw [startRow_apply, H.start0]; rfl
    · show startRow (I.start 1) _ = _
      rw [startRow_apply, H.start1]; rfl
  | succ t ih =>
    have ih := ih (by omega)
    rw [stU_succ, ← ih]
    have e : (fun k => xs t (ix3 0 p (lane s k))) = M.emb (idx p s t) := by
      funext k
      rw [hx t (by omega), H.xRow t (by omega)]
    refine Prod.ext (funext fun j => ?_) (funext fun j => ?_)
    · show hNew (gates (biasRow I.bf) (Body.fwd I xs t).1 (xs t) I.wf) (Body.fwd I xs t).2 _ = _
      rw [hNew_apply H.wf, e]; rfl
    · show cNew (gates (biasRow I.bf) (Body.fwd I xs t).1 (xs t) I.wf) (Body.fwd I xs t).2 _ = _
      rw [cNew_apply H.wf, e]; rfl

/-- The forward outputs. -/
theorem Holds.outF (H : Holds I M idx n) (hx : XOk I xs) (p : Fin 512) (s : Fin 2) (t : ℕ) (ht : t < 20) (j : Fin 64) :
    Body.outF I xs t (ix2 p (lane s j)) = wordF M (idx p s) (n p s) t j := by
  unfold Body.outF wordF
  rw [select_mask_apply _ _ (by omega), H.lenMat, zeros_apply, ← outU_eq_out _ _ _ _ _ _ _ (has_prefix (n p s))]
  have := congrFun (congrArg Prod.fst (H.fwd hx p s (t + 1) (by omega))) j
  rw [show (Body.fwd I xs (t + 1)).1 (ix2 p (lane s j)) = _ from this]
  rfl

/-- The second scratch buffer's planes hold the forward outputs. -/
def FOk (I : Loads Ideal) (xs : ℕ → Vec Ideal S1x512x128 .bf16) (fs : ℕ → Vec Ideal S1x512x128 .f32) : Prop :=
  ∀ t, t < 20 → shapeCast S512x128 (fs t) shapeCasts_S1x512x128_S512x128 = Body.outF I xs t

/-- The backward pass: the reverse direction's states, and the gated outputs summed so far. -/
theorem Holds.back (H : Holds I M idx n) (hx : XOk I xs) (hf : FOk I xs fs) (p : Fin 512) (s : Fin 2) (k : ℕ) (hk : k ≤ 20) :
    (fun j => (Body.back I xs fs k).h (ix2 p (lane s j)), fun j => (Body.back I xs fs k).c (ix2 p (lane s j)))
      = stR M (idx p s) (n p s) k
    ∧ (∀ j, (Body.back I xs fs k).accF (ix2 p (lane s j))
        = ∑ i ∈ Finset.range k, Spec.att M.af M.ar (wordF M (idx p s) (n p s) (19 - i)) (wordR M (idx p s) (n p s) (19 - i))
            * wordF M (idx p s) (n p s) (19 - i) j)
    ∧ ∀ j, (Body.back I xs fs k).accR (ix2 p (lane s j))
        = ∑ i ∈ Finset.range k, Spec.att M.af M.ar (wordF M (idx p s) (n p s) (19 - i)) (wordR M (idx p s) (n p s) (19 - i))
            * wordR M (idx p s) (n p s) (19 - i) j := by
  induction k with
  | zero =>
    refine ⟨Prod.ext (funext fun j => ?_) (funext fun j => ?_), fun j => ?_, fun j => ?_⟩
    · show startRow (I.start 2) _ = _
      rw [startRow_apply, H.start2]; rfl
    · show startRow (I.start 3) _ = _
      rw [startRow_apply, H.start3]; rfl
    · exact (zeros_apply (ix2 p (lane s j))).trans (Finset.sum_range_zero _).symm
    · exact (zeros_apply (ix2 p (lane s j))).trans (Finset.sum_range_zero _).symm
  | succ k ih =>
    obtain ⟨hst, hF, hR⟩ := ih (by omega)
    have e : (fun k' => xs (19 - k) (ix3 0 p (lane s k'))) = M.emb (idx p s (19 - k)) := by
      funext k'
      rw [hx _ (by omega), H.xRow _ (by omega)]
    have hn : ∀ j, hNew (gates (biasRow I.br) (Body.back I xs fs k).h (xs (19 - k)) I.wr) (Body.back I xs fs k).c (ix2 p (lane s j))
        = (next M.Wir M.Whr M.br (fun i => M.emb (idx p s (19 - i))) k (stR M (idx p s) (n p s) k)).1 j := by
      intro j; rw [hNew_apply H.wr, e, ← hst]; rfl
    have cn : ∀ j, cNew (gates (biasRow I.br) (Body.back I xs fs k).h (xs (19 - k)) I.wr) (Body.back I xs fs k).c (ix2 p (lane s j))
        = (next M.Wir M.Whr M.br (fun i => M.emb (idx p s (19 - i))) k (stR M (idx p s) (n p s) k)).2 j := by
      intro j; rw [cNew_apply H.wr, e, ← hst]; rfl
    have fw : ∀ j, shapeCast S512x128 (fs (19 - k)) shapeCasts_S1x512x128_S512x128 (ix2 p (lane s j))
        = wordF M (idx p s) (n p s) (19 - k) j := by
      intro j; rw [hf _ (by omega), H.outF hx p s _ (by omega)]
    have ro : ∀ j, select (mask (Body.len I) (19 - k))
          (hNew (gates (biasRow I.br) (Body.back I xs fs k).h (xs (19 - k)) I.wr) (Body.back I xs fs k).c) zeros (ix2 p (lane s j))
        = wordR M (idx p s) (n p s) (19 - k) j := by
      intro j
      rw [select_mask_apply _ _ (by omega), H.lenMat, zeros_apply, hn]
      unfold wordR
      rw [show 19 - (19 - k) = k by omega]
      rfl
    refine ⟨?_, fun j => ?_, fun j => ?_⟩
    · unfold stR
      rw [st_succ]
      refine Prod.ext (funext fun j => ?_) (funext fun j => ?_)
      · show select (mask (Body.len I) (19 - k)) _ (Body.back I xs fs k).h (ix2 p (lane s j)) = _
        rw [select_mask_apply _ _ (by omega), H.lenMat, hn]
        have := congrFun (congrArg Prod.fst hst) j
        rw [show (Body.back I xs fs k).h (ix2 p (lane s j)) = _ from this]
        by_cases hm : has (n p s) (19 - k) = true
        · rw [if_pos hm, if_pos hm]; rfl
        · rw [if_neg hm, if_neg hm]; rfl
      · show select (mask (Body.len I) (19 - k)) _ (Body.back I xs fs k).c (ix2 p (lane s j)) = _
        rw [select_mask_apply _ _ (by omega), H.lenMat, cn]
        have := congrFun (congrArg Prod.snd hst) j
        rw [show (Body.back I xs fs k).c (ix2 p (lane s j)) = _ from this]
        by_cases hm : has (n p s) (19 - k) = true
        · rw [if_pos hm, if_pos hm]; rfl
        · rw [if_neg hm, if_neg hm]; rfl
    · rw [Finset.sum_range_succ, ← hF]
      show addf (Body.back I xs fs k).accF (mulf (Body.att _ _ I.ones) _) (ix2 p (lane s j)) = _
      show (Body.back I xs fs k).accF (ix2 p (lane s j)) + Body.att _ _ I.ones (ix2 p (lane s j)) * shapeCast S512x128 (fs (19 - k)) shapeCasts_S1x512x128_S512x128 (ix2 p (lane s j)) = _
      rw [att_apply H.ones, fw]
      simp only [fw, ro]
    · rw [Finset.sum_range_succ, ← hR]
      show (Body.back I xs fs k).accR (ix2 p (lane s j)) + Body.att _ _ I.ones (ix2 p (lane s j)) * select (mask (Body.len I) (19 - k)) _ _ (ix2 p (lane s j)) = _
      rw [att_apply H.ones, ro]
      simp only [fw, ro]

/-- The backward pass's sums are the words' results. -/
theorem Holds.accF (H : Holds I M idx n) (hx : XOk I xs) (hf : FOk I xs fs) (p : Fin 512) (s : Fin 2) (j : Fin 64) :
    (Body.back I xs fs 20).accF (ix2 p (lane s j)) = word M (idx p s) (n p s) 0 j := by
  rw [(H.back hx hf p s 20 le_rfl).2.1 j, result_reflect]
  rfl

theorem Holds.accR (H : Holds I M idx n) (hx : XOk I xs) (hf : FOk I xs fs) (p : Fin 512) (s : Fin 2) (j : Fin 64) :
    (Body.back I xs fs 20).accR (ix2 p (lane s j)) = word M (idx p s) (n p s) 1 j := by
  rw [(H.back hx hf p s 20 le_rfl).2.2 j, result_reflect]
  rfl

end Cert.KernelIdeal.Body

end
-- ==== Proof.KRead.lean ====
module

public import proofs.«01_k».proof.Proof.KBridge
public import proofs.«01_k».proof.Proof.KRun

@[expose] public section

set_option maxRecDepth 16384

noncomputable section

/-!
The scratch buffers read back what was stored in them, and the output block entry by entry.
-/

namespace Cert.KernelIdeal.Body

open Idealize.ShloMosaic Idealize.ShloMosaic.TcCoe
open Cert.KernelIdeal Cert.KernelIdeal.Gen Cert.Spec

theorem plane_disjoint {t n : ℕ} (h : t % 20 ≠ n % 20) : Disjoint (plane n).set (plane t).toLoadRect.set :=
  Rect.unit_disjoint (0 : Fin 3) (by
    show n % 20 + 1 ≤ t % 20 ∨ t % 20 + 1 ≤ n % 20
    omega)

/-- A plane read back after the stores of the first `n` planes is what was stored in it. -/
theorem readCov_planes {e : EltTy} {κ sp} (v : View sig κ sp S20x512x128 e) (G : ℕ → S1x512x128.Idx → Elt Ideal e)
    (L : ℕ → List (View.Piece (Elt Ideal) S20x512x128 e)) (hL : ∀ n, L (n + 1) = ⟨plane n, G n⟩ :: L n)
    (t n : ℕ) (ht : t < n) (hn : n ≤ 20) : v.readCov (L n) (plane t).toLoadRect = G t := by
  induction n with
  | zero => omega
  | succ n ih =>
    rw [hL]
    by_cases e : t = n
    · subst e
      exact View.readCov_cons_toLoadRect v (plane t) (G t) (L t)
    · have hd : t % 20 ≠ n % 20 := by omega
      exact (View.readCov_cons_of_disjoint v ⟨plane n, G n⟩ (L n) (plane t).toLoadRect (plane_disjoint hd)).trans
        (ih (by omega) (by omega))

/-- The embedding rows are read back. -/
theorem xLoad_ok (arg9 : Memref sig .tc .vmem S20x512x128 .bf16) (I : Loads Ideal) : XOk I (xLoad arg9 I) := by
  intro t ht
  unfold xLoad
  exact readCov_planes (e := .bf16) arg9.view (fun t => xRow (I.col t) (I.col (20 + t)) I.emb) (xPieces I) (fun n => by rw [xPieces]) t 20 ht le_rfl

/-- The forward outputs are read back. -/
theorem fLoad_ok (arg9 : Memref sig .tc .vmem S20x512x128 .bf16) (arg10 : Memref sig .tc .vmem S20x512x128 .f32) (I : Loads Ideal) :
    FOk I (xLoad arg9 I) (fLoad arg9 arg10 I) := by
  intro t ht
  have : fLoad arg9 arg10 I t = shapeCast S1x512x128 (outF I (xLoad arg9 I) t) shapeCasts_S512x128_S1x512x128 := by
    unfold fLoad
    exact readCov_planes (e := .f32) arg10.view (fun t => shapeCast S1x512x128 (outF I (xLoad arg9 I) t) shapeCasts_S512x128_S1x512x128)
      (fPieces I (xLoad arg9 I)) (fun n => by rw [fPieces]) t 20 ht le_rfl
  rw [this]
  funext i
  obtain ⟨p, l, rfl⟩ : ∃ p l, i = ix2 p l := ⟨i 0, i 1, by funext a; match a with | 0 => rfl | 1 => rfl⟩
  pointwise

/-! ## The output block -/

/-- The output block of the two sums: row `512 s + p` holds the word in half `s` of row `p`, the forward sum first. -/
def outBlock (a b : FVec Ideal S512x128 .f32) : Vec Ideal S1024x128 .f32 := fun y =>
  let p : Fin 512 := ⟨(y 0).val % 512, Nat.mod_lt _ (by omega)⟩
  let s : Fin 2 := ⟨(y 0).val / 512, by have h : (y 0).val < 1024 := (y 0).isLt; omega⟩
  let j : Fin 64 := ⟨(y 1).val % 64, Nat.mod_lt _ (by omega)⟩
  if (y 1).val / 64 = 0 then a (ix2 p (lane s j)) else b (ix2 p (lane s j))

theorem outBlock_apply (a b : FVec Ideal S512x128 .f32) (s : Fin 2) (p : Fin 512) (d : Fin 2) (j : Fin 64) :
    outBlock a b (ix2 ⟨512 * s.val + p.val, by omega⟩ (lane d j)) = if d = 0 then a (ix2 p (lane s j)) else b (ix2 p (lane s j)) := by
  have e1 : (⟨(512 * s.val + p.val) % 512, Nat.mod_lt _ (by omega)⟩ : Fin 512) = p := Fin.ext (by show (512 * s.val + p.val) % 512 = p.val; omega)
  have e2 : (⟨(512 * s.val + p.val) / 512, by omega⟩ : Fin 2) = s := Fin.ext (by show (512 * s.val + p.val) / 512 = s.val; omega)
  have e3 : (⟨(64 * d.val + j.val) % 64, Nat.mod_lt _ (by omega)⟩ : Fin 64) = j := Fin.ext (by show (64 * d.val + j.val) % 64 = j.val; omega)
  show (if (64 * d.val + j.val) / 64 = 0 then a (ix2 ⟨(512 * s.val + p.val) % 512, _⟩ (lane ⟨(512 * s.val + p.val) / 512, _⟩ ⟨(64 * d.val + j.val) % 64, _⟩))
    else b (ix2 ⟨(512 * s.val + p.val) % 512, _⟩ (lane ⟨(512 * s.val + p.val) / 512, _⟩ ⟨(64 * d.val + j.val) % 64, _⟩))) = _
  rw [e1, e2, e3]
  match d with
  | 0 => rw [if_pos (by show (64 * 0 + j.val) / 64 = 0; omega), if_pos rfl]
  | 1 => rw [if_neg (by show ¬ (64 * 1 + j.val) / 64 = 0; omega), if_neg (by decide)]

/-- A piece of the output: a half of the rows and a half of the columns, from a half of a sum's lanes. -/
theorem piece_apply (a b : FVec Ideal S512x128 .f32) (s d : Fin 2) (o : Fin 2 → ℕ) (ho : o = ![0, 64 * s.val])
    (hs : S512x128.Slices o S512x64) (q : Fin 2 → ℕ) (hq : q = ![512 * s.val, 64 * d.val])
    (inb : ∀ x : Fin 2, q x + S512x64.size x ≤ S1024x128.size x) (x : S512x64.Idx) :
    extractStridedSlice S512x64 o (if d = 0 then a else b) hs x
      = outBlock a b ((Rect.unit (s := S1024x128) q S512x64.size inb).emb x) := by
  subst ho hq
  obtain ⟨p, j, rfl⟩ : ∃ p j, x = ix2 p j := ⟨x 0, x 1, by funext a; match a with | 0 => rfl | 1 => rfl⟩
  have : (Rect.unit (s := S1024x128) ![512 * s.val, 64 * d.val] S512x64.size inb).emb (ix2 p j)
      = ix2 ⟨512 * s.val + p.val, by omega⟩ (lane d j) := by
    funext x
    match x with
    | 0 => exact Fin.ext (by show 512 * s.val + 1 * p.val = 512 * s.val + p.val; omega)
    | 1 => exact Fin.ext (by show 64 * d.val + 1 * j.val = 64 * d.val + j.val; omega)
  rw [this, outBlock_apply]
  have h2 : ∀ f : FVec Ideal S512x128 .f32, extractStridedSlice S512x64 ![0, 64 * s.val] f hs (ix2 p j) = f (ix2 p (lane s j)) := by
    intro f
    show f _ = f _
    congr 1
    funext x
    match x with
    | 0 => exact Fin.ext (by show 0 + p.val = p.val; omega)
    | 1 => rfl
  rw [h2]
  match d with
  | 0 => rfl
  | 1 => rfl

/-- The output block the pieces leave. -/
theorem canon_outPieces (a b : FVec Ideal S512x128 .f32) : View.canon (outPieces a b) = outBlock a b := by
  funext y
  refine View.canon_apply_of_pieces (outBlock a b) _ ?_ y ?_
  · intro q hq x
    simp only [outPieces, List.mem_cons, List.not_mem_nil, or_false] at hq
    rcases hq with rfl | rfl | rfl | rfl
    · exact piece_apply a b 1 1 _ rfl slices_S512x128_o0_64_S512x64 _ rfl inb_S1024x128_S512x64_512_64 x
    · exact piece_apply a b 1 0 _ rfl slices_S512x128_o0_64_S512x64 _ rfl inb_S1024x128_S512x64_512_0 x
    · exact piece_apply a b 0 1 _ rfl slices_S512x128_o0_0_S512x64 _ rfl inb_S1024x128_S512x64_0_64 x
    · exact piece_apply a b 0 0 _ rfl slices_S512x128_o0_0_S512x64 _ rfl inb_S1024x128_S512x64_0_0 x
  · have h0 : (y 0).val < 1024 := (y 0).isLt
    have h1 : (y 1).val < 128 := (y 1).isLt
    simp only [outPieces, List.mem_cons, List.not_mem_nil, or_false, exists_eq_or_imp, exists_eq_left, Rect.mem_set_unit, Fin.forall_fin_two]
    show (512 ≤ (y 0).val ∧ (y 0).val < 512 + 512) ∧ (64 ≤ (y 1).val ∧ (y 1).val < 64 + 64)
      ∨ (512 ≤ (y 0).val ∧ (y 0).val < 512 + 512) ∧ (0 ≤ (y 1).val ∧ (y 1).val < 0 + 64)
      ∨ (0 ≤ (y 0).val ∧ (y 0).val < 0 + 512) ∧ (64 ≤ (y 1).val ∧ (y 1).val < 64 + 64)
      ∨ (0 ≤ (y 0).val ∧ (y 0).val < 0 + 512) ∧ (0 ≤ (y 1).val ∧ (y 1).val < 0 + 64)
    omega

end Cert.KernelIdeal.Body

end
-- ==== Proof.Model.lean ====
module

public import proofs.«01_k».proof.Proof.Spec

@[expose] public section

noncomputable section

/-!
The value both programs compute, from their arguments.
-/

namespace Cert.Spec

open Idealize.ShloMosaic

/-- The arguments of the two programs. -/
structure Args where
  chars : IVec ⟨3, ![16, 512, 20]⟩ 32
  lens : IVec ⟨2, ![16, 512]⟩ 32
  emb : FVec Ideal ⟨2, ![262, 64]⟩ .f32
  Wif : FVec Ideal ⟨2, ![256, 64]⟩ .f32
  Whf : FVec Ideal ⟨2, ![256, 64]⟩ .f32
  b1f : FVec Ideal ⟨1, ![256]⟩ .f32
  b2f : FVec Ideal ⟨1, ![256]⟩ .f32
  Wir : FVec Ideal ⟨2, ![256, 64]⟩ .f32
  Whr : FVec Ideal ⟨2, ![256, 64]⟩ .f32
  b1r : FVec Ideal ⟨1, ![256]⟩ .f32
  b2r : FVec Ideal ⟨1, ![256]⟩ .f32
  h0 : FVec Ideal ⟨3, ![2, 1, 64]⟩ .f32
  c0 : FVec Ideal ⟨3, ![2, 1, 64]⟩ .f32
  attn : FVec Ideal ⟨2, ![1, 128]⟩ .f32

namespace Args

variable (A : Args)

/-- The cells' and the gate's parameters. -/
def model : Model where
  emb a k := if h : a < 262 then A.emb (ix2 ⟨a, h⟩ k) else 0
  Wif g k := A.Wif (ix2 g k)
  Whf g k := A.Whf (ix2 g k)
  bf g := A.b1f (ix1 g) + A.b2f (ix1 g)
  Wir g k := A.Wir (ix2 g k)
  Whr g k := A.Whr (ix2 g k)
  br g := A.b1r (ix1 g) + A.b2r (ix1 g)
  h0f j := A.h0 (ix3 0 0 j)
  c0f j := A.c0 (ix3 0 0 j)
  h0r j := A.h0 (ix3 1 0 j)
  c0r j := A.c0 (ix3 1 0 j)
  af k := A.attn (ix2 0 (lane 0 k))
  ar k := A.attn (ix2 0 (lane 1 k))

/-- The indices lie in the vocabulary. -/
def InVocabulary : Prop := ∀ i, 0 ≤ (A.chars i).toInt ∧ (A.chars i).toInt < 262

/-- The characters of word `w` of batch `b`. -/
def char (b : Fin 16) (w : Fin 512) (t : ℕ) : ℕ := if h : t < 20 then (A.chars (ix3 b w ⟨t, h⟩)).toNat else 0

/-- The length of word `w` of batch `b`. -/
def len (b : Fin 16) (w : Fin 512) : BitVec 32 := A.lens (ix2 b w)

/-- The value at word `w` of batch `b`, in direction `d`'s entry `j`. -/
def value (b : Fin 16) (w : Fin 512) (d : Fin 2) (j : Fin 64) : EReal := word A.model (A.char b w) (A.len b w) d j

/-- The result: a row per word. -/
def output : FVec Ideal ⟨2, ![8192, 128]⟩ .f32 := fun i =>
  A.value ⟨(i 0).val / 512, by have h : (i 0).val < 8192 := (i 0).isLt; omega⟩ ⟨(i 0).val % 512, by omega⟩
    ⟨(i 1).val / 64, by have h : (i 1).val < 128 := (i 1).isLt; omega⟩ ⟨(i 1).val % 64, by omega⟩

theorem output_apply (b : Fin 16) (w : Fin 512) (d : Fin 2) (j : Fin 64) :
    A.output (ix2 ⟨512 * b.val + w.val, by omega⟩ (lane d j)) = A.value b w d j := by
  have hj := j.isLt
  have e0 : (⟨(512 * b.val + w.val) / 512, by omega⟩ : Fin 16) = b := Fin.ext (by simp only; omega)
  have e1 : (⟨(512 * b.val + w.val) % 512, by omega⟩ : Fin 512) = w := Fin.ext (by simp only; omega)
  have e2 : (⟨(64 * d.val + j.val) / 64, by omega⟩ : Fin 2) = d := Fin.ext (by simp only; omega)
  have e3 : (⟨(64 * d.val + j.val) % 64, by omega⟩ : Fin 64) = j := Fin.ext (by simp only; omega)
  show A.value ⟨(512 * b.val + w.val) / 512, _⟩ ⟨(512 * b.val + w.val) % 512, _⟩ ⟨(64 * d.val + j.val) / 64, _⟩ ⟨(64 * d.val + j.val) % 64, _⟩ = _
  rw [e0, e1, e2, e3]

/-- Every index of the result is a word's, a direction's and an entry's. -/
theorem exists_index (i : (⟨2, ![8192, 128]⟩ : Shape).Idx) :
    ∃ (b : Fin 16) (w : Fin 512) (d : Fin 2) (j : Fin 64), i = ix2 ⟨512 * b.val + w.val, by omega⟩ (lane d j) := by
  have h0 : (i 0).val < 8192 := (i 0).isLt
  obtain ⟨d, j, h⟩ := exists_lane (i 1)
  refine ⟨⟨(i 0).val / 512, by omega⟩, ⟨(i 0).val % 512, by omega⟩, d, j, ?_⟩
  funext a
  match a with
  | ⟨0, _⟩ => exact Fin.ext (by show (i 0).val = 512 * ((i 0).val / 512) + (i 0).val % 512; omega)
  | ⟨1, _⟩ => exact h

variable {A}

theorem InVocabulary.char_lt (h : A.InVocabulary) (b : Fin 16) (w : Fin 512) (t : ℕ) : A.char b w t < 262 := by
  unfold char
  split
  · next ht =>
    obtain ⟨h0, h1⟩ := h (ix3 b w ⟨t, ht⟩)
    have := BitVec.toInt_eq_toNat_cond (A.chars (ix3 b w ⟨t, ht⟩))
    have := (A.chars (ix3 b w ⟨t, ht⟩)).isLt
    split_ifs at * <;> omega
  · omega

theorem char_eq (b : Fin 16) (w : Fin 512) (t : Fin 20) : BitVec.ofNat 32 (A.char b w t.val) = A.chars (ix3 b w t) := by
  unfold char
  rw [dif_pos t.isLt, BitVec.ofNat_toNat, BitVec.setWidth_eq]

end Args

end Cert.Spec

end
-- ==== Proof.KHolds.lean ====
module

public import proofs.«01_k».proof.Proof.KEntries
public import proofs.«01_k».proof.Proof.KRead
public import proofs.«01_k».proof.Proof.Model
public import Idealize.ShloMosaic.Lib.Pipeline.ValueKit

@[expose] public section

set_option maxRecDepth 16384

/-!
The blocks a grid point fetches hold what the body's recursion needs, and the block it writes back holds the words' values.
-/

noncomputable section

namespace Cert.KernelIdeal.Host

open Idealize.ShloMosaic Idealize.ShloMosaic.TcCoe Idealize.ShloMosaic.Tactic
open Cert.KernelIdeal Cert.KernelIdeal.Gen Cert.KernelIdeal.Body Cert.Spec

/-- The batch of the words in half `s` of block `g`. -/
def batch (g : Fin 8) (s : Fin 2) : Fin 16 := ⟨2 * g.val + s.val, by omega⟩

/-- The blocks of grid point `g`, from the arguments. -/
structure Fetched (A : Args) (g : Fin 8) (x0 : Vec Ideal S512x64 .i32) (x1 : Vec Ideal S528x128 .bf16) (x2 x3 : Vec Ideal S256x512 .bf16)
    (x4 : Vec Ideal S2x512 .f32) (x5 : Vec Ideal S256x128 .bf16) (x6 : Vec Ideal S4x128 .f32) : Prop where
  cols : ∀ (p : Fin 512) (k : Fin 64), x0 (ix2 p k) = colpack A.chars A.lens (ix2 ⟨512 * g.val + p.val, by omega⟩ k)
  emb : x1 = emb2 (F := Ideal) A.emb
  wf : x2 = pairCols (F := Ideal) (wcat A.Wif A.Whf)
  wr : x3 = pairCols (F := Ideal) (wcat A.Wir A.Whr)
  bias : x4 = biases (F := Ideal) A.b1f A.b2f A.b1r A.b2r
  ones : x5 = onesBd (F := Ideal) A.attn
  start : x6 = starts (F := Ideal) A.h0 A.c0

section
variable (arg1 : Memref sig .tc .vmem S512x64 .i32) (harg1 : arg1.IsWhole) (arg2 : Memref sig .tc .vmem S528x128 .bf16) (harg2 : arg2.IsWhole)
  (arg3 : Memref sig .tc .vmem S256x512 .bf16) (harg3 : arg3.IsWhole) (arg4 : Memref sig .tc .vmem S256x512 .bf16) (harg4 : arg4.IsWhole)
  (arg5 : Memref sig .tc .vmem S2x512 .f32) (harg5 : arg5.IsWhole) (arg6 : Memref sig .tc .vmem S256x128 .bf16) (harg6 : arg6.IsWhole)
  (arg7 : Memref sig .tc .vmem S4x128 .f32) (harg7 : arg7.IsWhole)
  {A : Args} {g : Fin 8} {x0 : Vec Ideal S512x64 .i32} {x1 : Vec Ideal S528x128 .bf16} {x2 x3 : Vec Ideal S256x512 .bf16}
  {x4 : Vec Ideal S2x512 .f32} {x5 : Vec Ideal S256x128 .bf16} {x6 : Vec Ideal S4x128 .f32}

/-- A load of a whole memref. -/
theorem load_whole {S : Shape} {e : EltTy} (arg : Memref sig .tc .vmem S e) (harg : arg.IsWhole) (off : Fin S.rank → ℕ)
    (inb : ∀ a, off a + S.size a ≤ S.size a) (X : Vec Ideal S e) (h : ∀ a, off a = 0) :
    View.readAt (Elt Ideal) arg.view (Rect.unit off S.size inb).toLoadRect (harg.unread X) = X := by
  rw [View.readAt_eq_ld, Memref.IsWhole.read_unread]
  exact View.ld_unit_lit inb X h

/-- A column load. -/
theorem col_apply (k : ℕ) (hk : k < 64) (p : Fin 512) :
    (loads arg1 harg1 arg2 harg2 arg3 harg3 arg4 harg4 arg5 harg5 arg6 harg6 arg7 harg7 x0 x1 x2 x3 x4 x5 x6).col k (ix2 p 0) = x0 (ix2 p ⟨k, hk⟩) := by
  show View.readAt (Elt Ideal) arg1.view (Rect.unit (s := S512x64) ![0, k % 64] S512x1.size (inb_col k)).toLoadRect (harg1.unread x0) (ix2 p 0) = _
  rw [View.readAt_eq_ld, Memref.IsWhole.read_unread]
  pointwise
  exact congrArg (fun i => x0 (ix2 p i)) (Fin.ext (Nat.mod_eq_of_lt hk))

/-- A start load. -/
theorem start_apply (k : Fin 4) (l : Fin 128) :
    (loads arg1 harg1 arg2 harg2 arg3 harg3 arg4 harg4 arg5 harg5 arg6 harg6 arg7 harg7 x0 x1 x2 x3 x4 x5 x6).start k.val (ix2 0 l) = x6 (ix2 k l) := by
  show View.readAt (Elt Ideal) arg7.view (Rect.unit (s := S4x128) ![k.val % 4, 0] S1x128.size (inb_start k.val)).toLoadRect (harg7.unread x6) (ix2 0 l) = _
  rw [View.readAt_eq_ld, Memref.IsWhole.read_unread]
  pointwise
  exact congrArg (fun i => x6 (ix2 i l)) (Fin.ext (Nat.mod_eq_of_lt k.isLt))

/-- The forward bias load. -/
theorem bf_apply (l : Fin 512) :
    (loads arg1 harg1 arg2 harg2 arg3 harg3 arg4 harg4 arg5 harg5 arg6 harg6 arg7 harg7 x0 x1 x2 x3 x4 x5 x6).bf (ix2 0 l) = x4 (ix2 0 l) := by
  show View.readAt (Elt Ideal) arg5.view (Rect.unit (s := S2x512) ![0, 0] S1x512.size inb_S2x512_S1x512_0_0).toLoadRect (harg5.unread x4) (ix2 0 l) = _
  rw [View.readAt_eq_ld, Memref.IsWhole.read_unread]
  pointwise

/-- The reverse bias load. -/
theorem br_apply (l : Fin 512) :
    (loads arg1 harg1 arg2 harg2 arg3 harg3 arg4 harg4 arg5 harg5 arg6 harg6 arg7 harg7 x0 x1 x2 x3 x4 x5 x6).br (ix2 0 l) = x4 (ix2 1 l) := by
  show View.readAt (Elt Ideal) arg5.view (Rect.unit (s := S2x512) ![1, 0] S1x512.size inb_S2x512_S1x512_1_0).toLoadRect (harg5.unread x4) (ix2 0 l) = _
  rw [View.readAt_eq_ld, Memref.IsWhole.read_unread]
  pointwise

/-- The body's loads are what its recursion needs. -/
theorem holds (h : Fetched A g x0 x1 x2 x3 x4 x5 x6) (hA : A.InVocabulary) :
    Holds (loads arg1 harg1 arg2 harg2 arg3 harg3 arg4 harg4 arg5 harg5 arg6 harg6 arg7 harg7 x0 x1 x2 x3 x4 x5 x6) A.model
      (fun p s => A.char (batch g s) p) (fun p s => A.len (batch g s) p) where
  idx_lt p s t _ := hA.char_lt _ _ _
  col p s t ht := by
    rw [col_apply _ _ _ _ _ _ _ _ _ _ _ _ _ _ _ (by omega) p, h.cols]
    refine (colpack_index A.chars A.lens _ s ⟨t, ht⟩).trans ?_
    refine (congrArg A.chars ?_).trans (Args.char_eq (batch g s) p ⟨t, ht⟩).symm
    congr 1 <;> simp only [batch] <;> apply Fin.ext <;> simp only <;> omega
  len p s := by
    rw [col_apply _ _ _ _ _ _ _ _ _ _ _ _ _ _ _ (by omega) p, h.cols]
    refine (colpack_length A.chars A.lens _ s).trans ?_
    refine congrArg A.lens ?_
    congr 1 <;> simp only [batch] <;> apply Fin.ext <;> simp only <;> omega
  emb s s' a ha k := by
    refine (congrFun (load_whole arg2 harg2 _ _ x1 (by decide)) _).trans ?_
    rw [h.emb]
    refine (emb2_apply A.emb s s' a ha k).trans ?_
    simp only [Args.model]
    rw [dif_pos ha]
  wf := by
    have e : (loads arg1 harg1 arg2 harg2 arg3 harg3 arg4 harg4 arg5 harg5 arg6 harg6 arg7 harg7 x0 x1 x2 x3 x4 x5 x6).wf = x2 :=
      load_whole arg3 harg3 _ _ x2 (by decide)
    rw [e, h.wf]
    exact paired A.Wif A.Whf A.b1f A.b2f _ fun l => by
      rw [bf_apply, h.bias]
      exact (biases_apply A.b1f A.b2f A.b1r A.b2r l).1
  wr := by
    have e : (loads arg1 harg1 arg2 harg2 arg3 harg3 arg4 harg4 arg5 harg5 arg6 harg6 arg7 harg7 x0 x1 x2 x3 x4 x5 x6).wr = x3 :=
      load_whole arg4 harg4 _ _ x3 (by decide)
    rw [e, h.wr]
    exact paired A.Wir A.Whr A.b1r A.b2r _ fun l => by
      rw [br_apply, h.bias]
      exact (biases_apply A.b1f A.b2f A.b1r A.b2r l).2
  ones := by
    have e : (loads arg1 harg1 arg2 harg2 arg3 harg3 arg4 harg4 arg5 harg5 arg6 harg6 arg7 harg7 x0 x1 x2 x3 x4 x5 x6).ones = x5 :=
      load_whole arg6 harg6 _ _ x5 (by decide)
    rw [e, h.ones]
    exact onesBd_paired A.attn
  start0 s j := by
    refine (start_apply arg1 harg1 arg2 harg2 arg3 harg3 arg4 harg4 arg5 harg5 arg6 harg6 arg7 harg7 0 _).trans ?_
    rw [h.start]
    exact (starts_apply A.h0 A.c0 s j).1
  start1 s j := by
    refine (start_apply arg1 harg1 arg2 harg2 arg3 harg3 arg4 harg4 arg5 harg5 arg6 harg6 arg7 harg7 1 _).trans ?_
    rw [h.start]
    exact (starts_apply A.h0 A.c0 s j).2.1
  start2 s j := by
    refine (start_apply arg1 harg1 arg2 harg2 arg3 harg3 arg4 harg4 arg5 harg5 arg6 harg6 arg7 harg7 2 _).trans ?_
    rw [h.start]
    exact (starts_apply A.h0 A.c0 s j).2.2.1
  start3 s j := by
    refine (start_apply arg1 harg1 arg2 harg2 arg3 harg3 arg4 harg4 arg5 harg5 arg6 harg6 arg7 harg7 3 _).trans ?_
    rw [h.start]
    exact (starts_apply A.h0 A.c0 s j).2.2.2

/-- The block a grid point writes back: each word's value. -/
theorem out_apply (c : Dev nD) (i : grid0.Coords) (arg8 : Memref sig .tc .vmem S1024x128 .f32) (harg8 : arg8.IsWhole)
    (arg9 : Memref sig .tc .vmem S20x512x128 .bf16) (harg9 : arg9.IsWhole) (arg10 : Memref sig .tc .vmem S20x512x128 .f32) (harg10 : arg10.IsWhole)
    (h : Fetched A g x0 x1 x2 x3 x4 x5 x6) (hA : A.InVocabulary) (s : Fin 2) (p : Fin 512) (d : Fin 2) (j : Fin 64) :
    out0_A_7 c i arg1 harg1 arg2 harg2 arg3 harg3 arg4 harg4 arg5 harg5 arg6 harg6 arg7 harg7 arg8 harg8 arg9 harg9 arg10 harg10 x0 x1 x2 x3 x4 x5 x6
      (ix2 ⟨512 * s.val + p.val, by omega⟩ (lane d j)) = A.value (batch g s) p d j := by
  have H := holds arg1 harg1 arg2 harg2 arg3 harg3 arg4 harg4 arg5 harg5 arg6 harg6 arg7 harg7 h hA
  have hx := xLoad_ok arg9 (loads arg1 harg1 arg2 harg2 arg3 harg3 arg4 harg4 arg5 harg5 arg6 harg6 arg7 harg7 x0 x1 x2 x3 x4 x5 x6)
  have hf := fLoad_ok arg9 arg10 (loads arg1 harg1 arg2 harg2 arg3 harg3 arg4 harg4 arg5 harg5 arg6 harg6 arg7 harg7 x0 x1 x2 x3 x4 x5 x6)
  unfold out0_A_7
  rw [View.read_writes_junk_eq_canon, run_pieces, canon_outPieces, outBlock_apply]
  match d with
  | 0 => exact (if_pos rfl).trans (H.accF hx hf p s j)
  | 1 => exact (if_neg (by decide)).trans (H.accR hx hf p s j)

end

end Cert.KernelIdeal.Host

end
-- ==== Proof.KResult.lean ====
module

public import proofs.«01_k».proof.Proof.KHolds
public import proofs.«01_k».proof.Proof.Gen.KernelIdeal.Value

@[expose] public section

set_option maxRecDepth 16384

/-!
The kernel's result array, from its arguments.
-/

noncomputable section

namespace Cert.KernelIdeal.Host

open Idealize.ShloMosaic Idealize.ShloMosaic.TcCoe Idealize.ShloMosaic.Tactic
open Idealize.SL Idealize.SL.Sem
open Cert.KernelIdeal Cert.KernelIdeal.Gen Cert.KernelIdeal.Body Cert.Spec

variable (m : (ℓ : Loc nD τ sig) → Buf (Elt Ideal) ℓ)

/-- The program's arguments. -/
def args (c : Dev nD) : Args where
  chars := m ((c : Thread nD τ).loc main_arg0)
  lens := m ((c : Thread nD τ).loc main_arg1)
  emb := m ((c : Thread nD τ).loc main_arg2)
  Wif := m ((c : Thread nD τ).loc main_arg3)
  Whf := m ((c : Thread nD τ).loc main_arg4)
  b1f := m ((c : Thread nD τ).loc main_arg5)
  b2f := m ((c : Thread nD τ).loc main_arg6)
  Wir := m ((c : Thread nD τ).loc main_arg7)
  Whr := m ((c : Thread nD τ).loc main_arg8)
  b1r := m ((c : Thread nD τ).loc main_arg9)
  b2r := m ((c : Thread nD τ).loc main_arg10)
  h0 := m ((c : Thread nD τ).loc main_arg11)
  c0 := m ((c : Thread nD τ).loc main_arg12)
  attn := m ((c : Thread nD τ).loc main_arg13)

/-- The index maps: the packed columns and the result move a block per grid point, the other windows hold still. -/
theorem idx : ∀ t : Fin grid0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![t.val, 0] := by
  decide +kernel

/-- The number of a grid point. -/
def num (t : Fin cfg0.N) : Fin 8 := ⟨t.val, t.isLt⟩

/-- A block of the packed columns is a stretch of their rows. -/
theorem block0 (t : Fin cfg0.N) (X : Vec Ideal S4096x64 .i32) (p : Fin 512) (k : Fin 64) :
    ((cfg0.win 0).blk t).view.read (Elt Ideal) X (ix2 p k) = X (ix2 ⟨512 * t.val + p.val, by have : t.val < 8 := t.isLt; omega⟩ k) := by
  blk_ext [idx t]

theorem block1 (t : Fin cfg0.N) (X : Vec Ideal S528x128 .bf16) : ((cfg0.win 1).blk t).view.read (Elt Ideal) X = X := by
  funext i
  blk_ext [idx t]

theorem block2 (t : Fin cfg0.N) (X : Vec Ideal S256x512 .bf16) : ((cfg0.win 2).blk t).view.read (Elt Ideal) X = X := by
  funext i
  blk_ext [idx t]

theorem block3 (t : Fin cfg0.N) (X : Vec Ideal S256x512 .bf16) : ((cfg0.win 3).blk t).view.read (Elt Ideal) X = X := by
  funext i
  blk_ext [idx t]

theorem block4 (t : Fin cfg0.N) (X : Vec Ideal S2x512 .f32) : ((cfg0.win 4).blk t).view.read (Elt Ideal) X = X := by
  funext i
  blk_ext [idx t]

theorem block5 (t : Fin cfg0.N) (X : Vec Ideal S256x128 .bf16) : ((cfg0.win 5).blk t).view.read (Elt Ideal) X = X := by
  funext i
  blk_ext [idx t]

theorem block6 (t : Fin cfg0.N) (X : Vec Ideal S4x128 .f32) : ((cfg0.win 6).blk t).view.read (Elt Ideal) X = X := by
  funext i
  blk_ext [idx t]

/-- What grid point `t` fetches. -/
theorem fetched (c : Dev nD) (t : Fin cfg0.N) :
    Fetched (args m c) (num t) (iblk m c 0 t) (iblk m c 1 t) (iblk m c 2 t) (iblk m c 3 t) (iblk m c 4 t) (iblk m c 5 t) (iblk m c 6 t) where
  cols p k := by
    have e : iblk m c 0 t (ix2 p k) = V m c main_v14 (ix2 ⟨512 * t.val + p.val, by have : t.val < 8 := t.isLt; omega⟩ k) := by
      unfold iblk
      exact block0 t _ p k
    refine e.trans ?_
    rw [V_colpack]
    rfl
  emb := by
    have e : iblk m c 1 t = V m c main_v27 := by
      unfold iblk
      exact block1 t _
    exact e.trans (V_emb2 m c)
  wf := by
    have e : iblk m c 2 t = V m c main_v133 := by
      unfold iblk
      exact block2 t _
    exact e.trans (V_wf m c)
  wr := by
    have e : iblk m c 3 t = V m c main_v219 := by
      unfold iblk
      exact block3 t _
    exact e.trans (V_wr m c)
  bias := by
    have e : iblk m c 4 t = V m c main_v244 := by
      unfold iblk
      exact block4 t _
    exact e.trans (V_biases m c)
  ones := by
    have e : iblk m c 5 t = V m c main_v267 := by
      unfold iblk
      exact block5 t _
    exact e.trans (V_ones m c)
  start := by
    have e : iblk m c 6 t = V m c main_v284 := by
      unfold iblk
      exact block6 t _
    exact e.trans (V_starts m c)

/-- The kernel's result is the words' values. -/
theorem result_eq (c : Dev nD) (hA : (args m c).InVocabulary) : (dats m 0 c).arrAt 7 cfg0.N = (args m c).output := by
  refine (dats m 0 c).arrAt_eq_of_covers 7 _ (by decide +kernel) fun t hf y => ?_
  have key : ∀ z : S1024x128.Idx, outsAt0 m c t z = (args m c).output (ix2 ⟨1024 * t.val + (z 0).val, by
      have h : t.val < 8 := t.isLt
      have h' : (z 0).val < 1024 := (z 0).isLt
      omega⟩ (z 1)) := by
    intro z
    have hz : (z 0).val < 1024 := (z 0).isLt
    obtain ⟨d, j, h1⟩ := exists_lane (z 1)
    have hz' : z = ix2 ⟨512 * (⟨(z 0).val / 512, by omega⟩ : Fin 2).val + (⟨(z 0).val % 512, by omega⟩ : Fin 512).val, by simp only; omega⟩ (lane d j) := by
      funext a
      match a with
      | ⟨0, _⟩ => exact Fin.ext (by show (z 0).val = 512 * ((z 0).val / 512) + (z 0).val % 512; omega)
      | ⟨1, _⟩ => exact h1
    have e := out_apply _ (hs0_0 t) _ (hs0_1 t) _ (hs0_2 t) _ (hs0_3 t) _ (hs0_4 t) _ (hs0_5 t) _ (hs0_6 t) c (grid0.coords t) _ (hs0_7 t)
      scM0_0 (Memref.isWhole_whole _) scM0_1 (Memref.isWhole_whole _) (fetched m c t) hA ⟨(z 0).val / 512, by omega⟩ ⟨(z 0).val % 512, by omega⟩ d j
    refine (congrArg (outsAt0 m c t) hz').trans (e.trans ((Args.output_apply _ _ _ _ _).symm.trans ?_))
    rw [h1]
    refine congrArg (fun r => (args m c).output (ix2 r (lane d j))) (Fin.ext ?_)
    show 512 * (2 * t.val + (z 0).val / 512) + (z 0).val % 512 = 1024 * t.val + (z 0).val
    omega
  have place : ((cfg0.win 7).blk t).view.emb y = ix2 ⟨1024 * t.val + (y 0).val, by
      have h : t.val < 8 := t.isLt
      have h' : (y 0).val < 1024 := (y 0).isLt
      omega⟩ (y 1) := by
    blk_ext [idx t]
  refine Eq.trans ?_ (congrArg (args m c).output place.symm)
  refine Eq.trans ?_ (key y)
  blk_simp
  exact congrFun (after0_7 m c t) y

end Cert.KernelIdeal.Host

end
-- ==== Proof.RefOps.lean ====
module

public import proofs.«01_k».proof.Proof.Model
public import proofs.«01_k».proof.Proof.Gen.ReferenceIdeal

@[expose] public section

set_option maxRecDepth 16384

/-!
The operations of one trip of the reference's loop, on extended reals and entry by entry.
-/

noncomputable section

namespace Cert.ReferenceIdeal.Step

open Idealize.ShloMosaic Idealize.ShloMosaic.TcCoe Idealize.ShloMosaic.Tactic
open Cert.ReferenceIdeal Cert.ReferenceIdeal.Gen Cert.Spec

/-! ## The operations of a trip -/

/-- The place of the trip's plane in an array with a plane per trip. -/
def place (k : IVec S_ 32) : Fin 3 → ℤ := fun q =>
  (((![k, constantI S_ 32 0#32, constantI S_ 32 0#32] : Fin 3 → IVec S_ 32)) q (Shape.Idx.first h_S_)).toInt

/-- The trip's inputs. -/
def inputs (X : FVec Ideal S20x8192x64 .f32) (k : IVec S_ 32) : FVec Ideal S8192x64 .f32 :=
  shapeCast S8192x64 (Host.dynamicSlice S1x8192x64 X (place k) sliceFits_S20x8192x64_S1x8192x64) shapeCasts_S1x8192x64_S8192x64

/-- The trip's mask. -/
def mask (X : IVec S20x8192x1 1) (k : IVec S_ 32) : IVec S8192x1 1 :=
  shapeCast S8192x1 (Host.dynamicSlice S1x8192x1 X (place k) sliceFits_S20x8192x1_S1x8192x1) shapeCasts_S1x8192x1_S8192x1

/-- The cell's pre-activations. -/
def gates (Wi Wh : FVec Ideal S256x64 .f32) (b : FVec Ideal S256 .f32) (x h : FVec Ideal S8192x64 .f32) : FVec Ideal S8192x256 .f32 :=
  addf (addf (Host.dotGeneral dot_S8192x64_S64x256_S8192x256_1_0_0_1_n_n none x (transpose S64x256 [1, 0] Wi transposes_S256x64_S64x256_1_0))
      (Host.dotGeneral dot_S8192x64_S64x256_S8192x256_1_0_0_1_n_n none h (transpose S64x256 [1, 0] Wh transposes_S256x64_S64x256_1_0)))
    (broadcastInDim S8192x256 ![0, 1] bcast_S1x256_S8192x256_0_1 (broadcastInDim S1x256 ![1] bcast_S256_S1x256_1 b))

/-- The logistic function, as the reference spells it. -/
def sigmoid (x : FVec Ideal S8192x64 .f32) : FVec Ideal S8192x64 .f32 :=
  Host.divf (broadcastInDim S8192x64 ![] bcast_S_S8192x64 (constant S_ .f32 0x3F800000#32))
    (addf (broadcastInDim S8192x64 ![] bcast_S_S8192x64 (constant S_ .f32 0x3F800000#32)) (Host.exp (Host.negf x)))

/-- The cell's next cell state. -/
def newC (g : FVec Ideal S8192x256 .f32) (c : FVec Ideal S8192x64 .f32) : FVec Ideal S8192x64 .f32 :=
  addf (mulf (sigmoid (extractStridedSlice S8192x64 ![0, 64] g slices_S8192x256_S8192x64_0_64)) c)
    (mulf (sigmoid (extractStridedSlice S8192x64 ![0, 0] g slices_S8192x256_S8192x64_0_0))
      (Host.tanh (extractStridedSlice S8192x64 ![0, 128] g slices_S8192x256_S8192x64_0_128)))

/-- The cell's next hidden state. -/
def newH (g : FVec Ideal S8192x256 .f32) (c : FVec Ideal S8192x64 .f32) : FVec Ideal S8192x64 .f32 :=
  mulf (sigmoid (extractStridedSlice S8192x64 ![0, 192] g slices_S8192x256_S8192x64_0_192)) (Host.tanh (newC g c))

/-- The new state where the mask holds, the old one elsewhere. -/
def keep (p : IVec S8192x1 1) (new old : FVec Ideal S8192x64 .f32) : FVec Ideal S8192x64 .f32 :=
  select (broadcastInDim S8192x64 ![0, 1] bcast_S8192x1_S8192x64_0_1 p) new old

/-- Zeros. -/
def zeros : FVec Ideal S8192x64 .f32 := broadcastInDim S8192x64 ![] bcast_S_S8192x64 (id (constant S_ .f32 0x00000000#32))

/-- The outputs with the trip's plane written. -/
def emit (Y : FVec Ideal S20x8192x64 .f32) (k : IVec S_ 32) (out : FVec Ideal S8192x64 .f32) : FVec Ideal S20x8192x64 .f32 :=
  Host.dynamicUpdateSlice Y (broadcastInDim S1x8192x64 ![1, 2] bcast_S8192x64_S1x8192x64_1_2 out) (place k) updateFits_S20x8192x64_S1x8192x64

/-! ## Entry by entry -/

/-- The place's clamped coordinates, in an array of twenty planes. -/
theorem clamped {D : ℕ} (k : IVec S_ 32) (t : Fin 20) (hk : (k ix0).toInt = t.val)
    (h : (⟨3, ![1, 8192, D]⟩ : Shape).rank = (⟨3, ![20, 8192, D]⟩ : Shape).rank) :
    Host.clampedStart ⟨3, ![20, 8192, D]⟩ ⟨3, ![1, 8192, D]⟩ h (place k) 0 = t.val
      ∧ Host.clampedStart ⟨3, ![20, 8192, D]⟩ ⟨3, ![1, 8192, D]⟩ h (place k) 1 = 0
      ∧ Host.clampedStart ⟨3, ![20, 8192, D]⟩ ⟨3, ![1, 8192, D]⟩ h (place k) 2 = 0 := by
  have ef : Shape.Idx.first h_S_ = ix0 := funext fun a => a.elim0
  have e0 : place k 0 = (t.val : ℤ) := (congrArg (fun i => (k i).toInt) ef).trans hk
  have e1 : place k 1 = 0 := rfl
  have e2 : place k 2 = 0 := rfl
  have := t.isLt
  refine ⟨?_, ?_, ?_⟩
  · show (min (max (place k 0) 0) ((20 - 1 : ℕ) : ℤ)).toNat = t.val
    rw [e0]
    omega
  · show (min (max (place k 1) 0) ((8192 - 8192 : ℕ) : ℤ)).toNat = 0
    rw [e1]
    rfl
  · show (min (max (place k 2) 0) ((D - D : ℕ) : ℤ)).toNat = 0
    rw [e2, Nat.sub_self]
    rfl

/-- A trip's inputs are its plane. -/
theorem inputs_apply (X : FVec Ideal S20x8192x64 .f32) (k : IVec S_ 32) (t : Fin 20) (hk : (k ix0).toInt = t.val) (n : Fin 8192) (j : Fin 64) :
    inputs X k (ix2 n j) = X (ix3 t n j) := by
  pointwise [inputs]
  obtain ⟨e0, e1, e2⟩ := clamped (D := 64) k t hk rfl
  refine congrArg X ?_
  congr 1 <;> apply Fin.ext
  · exact e0
  · exact (congrArg (· + n.val) e1).trans (Nat.zero_add _)
  · exact (congrArg (· + j.val) e2).trans (Nat.zero_add _)

/-- A trip's mask is its plane. -/
theorem mask_apply (X : IVec S20x8192x1 1) (k : IVec S_ 32) (t : Fin 20) (hk : (k ix0).toInt = t.val) (n : Fin 8192) :
    mask X k (ix2 n 0) = X (ix3 t n 0) := by
  pointwise [mask]
  obtain ⟨e0, e1, e2⟩ := clamped (D := 1) k t hk rfl
  refine congrArg X ?_
  congr 1 <;> apply Fin.ext
  · exact e0
  · exact (congrArg (· + n.val) e1).trans (Nat.zero_add _)

/-- Writing a trip's plane changes that plane alone. -/
theorem emit_apply (Y : FVec Ideal S20x8192x64 .f32) (k : IVec S_ 32) (t : Fin 20) (hk : (k ix0).toInt = t.val) (out : FVec Ideal S8192x64 .f32)
    (t' : Fin 20) (n : Fin 8192) (j : Fin 64) :
    emit Y k out (ix3 t' n j) = if t' = t then out (ix2 n j) else Y (ix3 t' n j) := by
  pointwise [emit]
  have e0 : Host.clampedStart S20x8192x64 S1x8192x64 rfl (place k) 0 = t.val := (clamped (D := 64) k t hk rfl).1
  have e1 : Host.clampedStart S20x8192x64 S1x8192x64 rfl (place k) 1 = 0 := (clamped (D := 64) k t hk rfl).2.1
  have e2 : Host.clampedStart S20x8192x64 S1x8192x64 rfl (place k) 2 = 0 := (clamped (D := 64) k t hk rfl).2.2
  by_cases h : t' = t
  · rw [if_pos h, dif_pos (by rw [e0, e1, e2, h]; omega)]
    refine congrArg out ?_
    congr 1 <;> apply Fin.ext
  · have h' : t'.val ≠ t.val := fun e => h (Fin.ext e)
    rw [if_neg h, dif_neg (by rw [e0]; omega)]

/-- The pre-activations are the cell's. -/
theorem gates_apply (Wi Wh : FVec Ideal S256x64 .f32) (b : FVec Ideal S256 .f32) (x h : FVec Ideal S8192x64 .f32) (n : Fin 8192) (g : Fin 256) :
    gates Wi Wh b x h (ix2 n g) = gate (fun g k => Wi (ix2 g k)) (fun g k => Wh (ix2 g k)) (fun g => b (ix1 g)) (fun k => x (ix2 n k)) (fun k => h (ix2 n k)) g := by
  pointwise [gates, gate]

/-- The spelt-out logistic is the logistic. -/
theorem sigmoid_apply (x : FVec Ideal S8192x64 .f32) (n : Fin 8192) (j : Fin 64) : sigmoid x (ix2 n j) = Ideal.logistic (x (ix2 n j)) := by
  pointwise [sigmoid]
  rfl

/-- The next cell state, from the pre-activations. -/
theorem newC_apply (g : FVec Ideal S8192x256 .f32) (c : FVec Ideal S8192x64 .f32) (n : Fin 8192) (j : Fin 64) :
    newC g c (ix2 n j) = Ideal.logistic (g (ix2 n (row 1 j))) * c (ix2 n j) + Ideal.logistic (g (ix2 n (row 0 j))) * Ideal.tanh (g (ix2 n (row 2 j))) := by
  unfold newC
  pointwise [row]
  rw [sigmoid_apply, sigmoid_apply]
  pointwise

/-- A masked state. -/
theorem keep_apply (p : IVec S8192x1 1) (new old : FVec Ideal S8192x64 .f32) (n : Fin 8192) (j : Fin 64) :
    keep p new old (ix2 n j) = if p (ix2 n 0) = 1 then new (ix2 n j) else old (ix2 n j) := by
  pointwise [keep]
  rfl

/-- The next hidden state, from the pre-activations. -/
theorem newH_apply (g : FVec Ideal S8192x256 .f32) (c : FVec Ideal S8192x64 .f32) (n : Fin 8192) (j : Fin 64) :
    newH g c (ix2 n j) = Ideal.logistic (g (ix2 n (row 3 j))) * Ideal.tanh (newC g c (ix2 n j)) := by
  unfold newH
  pointwise [row]
  rw [sigmoid_apply]
  pointwise

theorem zeros_apply (n : Fin 8192) (j : Fin 64) : zeros (ix2 n j) = 0 := by
  pointwise [zeros]
  exact Ideal.ofBits_zero_f32

section
variable {Wi Wh : FVec Ideal S256x64 .f32} {b : FVec Ideal S256 .f32} (x h c : FVec Ideal S8192x64 .f32) (n : Fin 8192)

/-- The next cell state is the cell's. -/
theorem newC_gates (j : Fin 64) : newC (gates Wi Wh b x h) c (ix2 n j)
    = cellC (fun g k => Wi (ix2 g k)) (fun g k => Wh (ix2 g k)) (fun g => b (ix1 g)) (fun k => x (ix2 n k)) (fun k => h (ix2 n k)) (fun k => c (ix2 n k)) j := by
  rw [newC_apply, gates_apply, gates_apply, gates_apply]
  rfl

/-- The next hidden state is the cell's. -/
theorem newH_gates (j : Fin 64) : newH (gates Wi Wh b x h) c (ix2 n j)
    = cellH (fun g k => Wi (ix2 g k)) (fun g k => Wh (ix2 g k)) (fun g => b (ix1 g)) (fun k => x (ix2 n k)) (fun k => h (ix2 n k)) (fun k => c (ix2 n k)) j := by
  rw [newH_apply, newC_gates, gates_apply]
  rfl
end

end Cert.ReferenceIdeal.Step

end
-- ==== Proof.RefStep.lean ====
module

public import proofs.«01_k».proof.Proof.RefOps
public import proofs.«01_k».proof.Proof.Gen.ReferenceIdeal.Run

@[expose] public section

set_option maxRecDepth 16384

/-!
One trip of the reference's loop, on extended reals: the cell of each direction, its masked states and outputs.
-/

noncomputable section

namespace Cert.ReferenceIdeal.Step

open Idealize.ShloMosaic Idealize.ShloMosaic.TcCoe Idealize.ShloMosaic.Tactic
open Cert.ReferenceIdeal Cert.ReferenceIdeal.Gen Cert.ReferenceIdeal.Value Cert.Spec

variable (V0 : Valuation τ sig (Elt Ideal))

/-- The forward direction's pre-activations. -/
def gatesF : FVec Ideal S8192x256 .f32 :=
  gates (V0 (Proc.devRef .tc main_v35_4)) (V0 (Proc.devRef .tc main_v35_5)) (V0 (Proc.devRef .tc main_v35_6))
    (inputs (V0 (Proc.devRef .tc main_v35_0)) (V0 (Proc.devRef .tc main_v35_10))) (V0 (Proc.devRef .tc main_v35_11))

/-- The reverse direction's pre-activations. -/
def gatesR : FVec Ideal S8192x256 .f32 :=
  gates (V0 (Proc.devRef .tc main_v35_7)) (V0 (Proc.devRef .tc main_v35_8)) (V0 (Proc.devRef .tc main_v35_9))
    (inputs (V0 (Proc.devRef .tc main_v35_2)) (V0 (Proc.devRef .tc main_v35_10))) (V0 (Proc.devRef .tc main_v35_13))

/-- The forward direction's mask. -/
def maskF : IVec S8192x1 1 := mask (V0 (Proc.devRef .tc main_v35_1)) (V0 (Proc.devRef .tc main_v35_10))

/-- The reverse direction's mask. -/
def maskR : IVec S8192x1 1 := mask (V0 (Proc.devRef .tc main_v35_3)) (V0 (Proc.devRef .tc main_v35_10))

/-- The forward hidden state after a trip. -/
theorem step_11 : step_main_v35_11 V0 = keep (maskF V0) (newH (gatesF V0) (V0 (Proc.devRef .tc main_v35_12))) (V0 (Proc.devRef .tc main_v35_11)) := rfl
/-- The forward cell state after a trip. -/
theorem step_12 : step_main_v35_12 V0 = keep (maskF V0) (newC (gatesF V0) (V0 (Proc.devRef .tc main_v35_12))) (V0 (Proc.devRef .tc main_v35_12)) := rfl
/-- The reverse hidden state after a trip. -/
theorem step_13 : step_main_v35_13 V0 = keep (maskR V0) (newH (gatesR V0) (V0 (Proc.devRef .tc main_v35_14))) (V0 (Proc.devRef .tc main_v35_13)) := rfl
/-- The reverse cell state after a trip. -/
theorem step_14 : step_main_v35_14 V0 = keep (maskR V0) (newC (gatesR V0) (V0 (Proc.devRef .tc main_v35_14))) (V0 (Proc.devRef .tc main_v35_14)) := rfl
/-- The forward outputs after a trip. -/
theorem step_15 : step_main_v35_15 V0 = emit (V0 (Proc.devRef .tc main_v35_15)) (V0 (Proc.devRef .tc main_v35_10))
    (keep (maskF V0) (newH (gatesF V0) (V0 (Proc.devRef .tc main_v35_12))) zeros) := rfl
/-- The reverse outputs after a trip. -/
theorem step_16 : step_main_v35_16 V0 = emit (V0 (Proc.devRef .tc main_v35_16)) (V0 (Proc.devRef .tc main_v35_10))
    (keep (maskR V0) (newH (gatesR V0) (V0 (Proc.devRef .tc main_v35_14))) zeros) := rfl

end Cert.ReferenceIdeal.Step

end
-- ==== Proof.RefEntry.lean ====
module

public import proofs.«01_k».proof.Proof.RefOps

@[expose] public section

set_option maxRecDepth 16384

/-!
What the reference's loop starts from, on extended reals: the embedded characters and the masks, forwards and backwards, and the
starting states.
-/

noncomputable section

namespace Cert.ReferenceIdeal.Step

open Idealize.ShloMosaic Idealize.ShloMosaic.TcCoe Idealize.ShloMosaic.Tactic
open Cert.ReferenceIdeal Cert.ReferenceIdeal.Gen Cert.Spec

/-- The characters' rows of the table: one row per word, one index per character, a negative one counted from the end. -/
def places (X : IVec S16x512x20 32) : IVec S8192x20x1 32 :=
  broadcastInDim S8192x20x1 ![0, 1] bcast_S8192x20_S8192x20x1_0_1
    (select (cmpi .slt (shapeCast S8192x20 X shapeCasts_S16x512x20_S8192x20) (broadcastInDim S8192x20 ![] bcast_S_S8192x20 (constantI S_ 32 0#32)))
      (addi (shapeCast S8192x20 X shapeCasts_S16x512x20_S8192x20) (broadcastInDim S8192x20 ![] bcast_S_S8192x20 (constantI S_ 32 262#32)))
      (shapeCast S8192x20 X shapeCasts_S16x512x20_S8192x20))

/-- The embedded characters, a plane per character. -/
def planes (X : IVec S16x512x20 32) (E : FVec Ideal S262x64 .f32) : FVec Ideal S20x8192x64 .f32 :=
  transpose S20x8192x64 [1, 0, 2] (Host.gather gather_S262x64_S8192x20x1_S8192x20x64_2_0_n_n_0_2_164 E (places X)) transposes_S8192x20x64_S20x8192x64_1_0_2

/-- The masks, a plane per character: whether the word is longer than the character's place. -/
def masks (L : IVec S16x512 32) : IVec S20x8192x1 1 :=
  broadcastInDim S20x8192x1 ![0, 1] bcast_S20x8192_S20x8192x1_0_1
    (cmpi .slt (broadcastInDim S20x8192 ![0, 1] bcast_S20x1_S20x8192_0_1 (broadcastInDim S20x1 ![0] bcast_S20_S20x1_0 (iotaInDim S20 32 0)))
      (broadcastInDim S20x8192 ![0, 1] bcast_S1x8192_S20x8192_0_1 (broadcastInDim S1x8192 ![1] bcast_S8192_S1x8192_1 (shapeCast S8192 L shapeCasts_S16x512_S8192))))

/-- A gathered row is the table's row at the index, clamped to the table. -/
theorem gather_apply (E : FVec Ideal S262x64 .f32) (I : IVec S8192x20x1 32) (n : Fin 8192) (t : Fin 20) (k : Fin 64) :
    Host.gather gather_S262x64_S8192x20x1_S8192x20x64_2_0_n_n_0_2_164 E I (ix3 n t k)
      = E (ix2 ⟨min (I (ix3 n t 0)).toInt.toNat 261, by omega⟩ k) := by
  unfold Host.gather
  refine congrArg E (funext fun a => ?_)
  have hs : gather_S262x64_S8192x20x1_S8192x20x64_2_0_n_n_0_2_164.siIdx (ix3 n t k) ⟨0, Nat.one_pos⟩ = ix3 n t 0 := by
    funext b
    match b with
    | ⟨0, _⟩ => rfl
    | ⟨1, _⟩ => rfl
    | ⟨2, _⟩ => rfl
  match a with
  | ⟨0, _⟩ =>
    refine Fin.ext ?_
    show min (I (gather_S262x64_S8192x20x1_S8192x20x64_2_0_n_n_0_2_164.siIdx (ix3 n t k) ⟨0, Nat.one_pos⟩)).toInt.toNat 261 + 0 + 0 = _
    rw [hs]
    rfl
  | ⟨1, _⟩ =>
    refine Fin.ext ?_
    show 0 + 0 + k.val = k.val
    omega

section
variable (b : Fin 16) (w : Fin 512) (t : Fin 20)

/-- An index that is not negative is taken as it is. -/
theorem places_apply (X : IVec S16x512x20 32) (h : 0 ≤ (X (ix3 b w t)).toInt) :
    places X (ix3 ⟨512 * b.val + w.val, by omega⟩ t 0) = X (ix3 b w t) := by
  have hc : (X (ix3 b w t)).slt 0#32 = false := by
    rw [BitVec.slt_eq_decide, decide_eq_false_iff_not, BitVec.toInt_zero]
    omega
  pointwise [places]
  show (if BitVec.ofBool ((X (ix3 b w t)).slt 0#32) = 1 then _ else _) = _
  rw [hc]
  rfl

/-- A plane's row is the embedding of the character. -/
theorem planes_apply (A : Args) (hA : A.InVocabulary) (k : Fin 64) :
    planes A.chars A.emb (ix3 t ⟨512 * b.val + w.val, by omega⟩ k) = A.model.emb (A.char b w t.val) k := by
  have hb := hA (ix3 b w t)
  have hn : (A.chars (ix3 b w t)).toInt.toNat = (A.chars (ix3 b w t)).toNat := by
    have := hb.1
    rw [BitVec.toInt_eq_toNat_cond] at this ⊢
    split_ifs at this ⊢ <;> omega
  have hc : A.char b w t.val = (A.chars (ix3 b w t)).toNat := dif_pos t.isLt
  have hl : A.char b w t.val < 262 := by omega
  pointwise [planes]
  rw [gather_apply]
  show _ = dite _ _ _
  rw [dif_pos hl]
  refine congrArg (fun r => A.emb (ix2 r k)) (Fin.ext ?_)
  show min (places A.chars (ix3 ⟨512 * b.val + w.val, by omega⟩ t 0)).toInt.toNat 261 = _
  rw [places_apply b w t A.chars hb.1, hn, ← hc]
  show min (A.char b w t.val) 261 = A.char b w t.val
  omega

/-- A mask says whether the word has the character. -/
theorem masks_apply (A : Args) :
    masks A.lens (ix3 t ⟨512 * b.val + w.val, by omega⟩ 0) = BitVec.ofBool (has (A.len b w) t.val) := by
  pointwise [masks]
  exact congrArg BitVec.ofBool (slt_has (A.lens (ix2 b w)) t.val (by omega))
end

end Cert.ReferenceIdeal.Step

end
-- ==== Proof.RefHeld.lean ====
module

public import proofs.«01_k».proof.Proof.RefStep
public import proofs.«01_k».proof.Proof.RefEntry

@[expose] public section

set_option maxRecDepth 16384

/-!
The reference's loop on extended reals: after `k` trips its states and outputs are those of the masked recurrences after `k` steps.
-/

noncomputable section

namespace Cert.ReferenceIdeal.Step

open Idealize.ShloMosaic Idealize.ShloMosaic.TcCoe Idealize.ShloMosaic.Tactic
open Cert.ReferenceIdeal Cert.ReferenceIdeal.Gen Cert.ReferenceIdeal.Value Cert.Spec

/-! ## A trip, one word and one direction -/

section Trip
variable {Wi Wh : FVec Ideal S256x64 .f32} {bias : FVec Ideal S256 .f32} {x h c : FVec Ideal S8192x64 .f32} {p : IVec S8192x1 1}
  {n : Fin 8192} {wi wh : Fin 256 → Fin 64 → EReal} {bs : Fin 256 → EReal} {h0 c0 : Fin 64 → EReal} {xs : ℕ → Fin 64 → EReal}
  {ps : ℕ → Bool} {k : ℕ}
  (hwi : (fun g k => Wi (ix2 g k)) = wi) (hwh : (fun g k => Wh (ix2 g k)) = wh) (hb : (fun g => bias (ix1 g)) = bs)
  (hx : (fun k => x (ix2 n k)) = xs k) (hp : p (ix2 n 0) = BitVec.ofBool (ps k))
  (hh : (fun j => h (ix2 n j)) = (st wi wh bs h0 c0 xs ps k).1) (hc : (fun j => c (ix2 n j)) = (st wi wh bs h0 c0 xs ps k).2)

include hwi hwh hb hx hp hh hc

/-- A trip's hidden state is the recurrence's next one. -/
theorem hidden_trip : (fun j => keep p (newH (gates Wi Wh bias x h) c) h (ix2 n j)) = (st wi wh bs h0 c0 xs ps (k + 1)).1 := by
  funext j
  rw [keep_apply, newH_gates, hwi, hwh, hb, hx, hh, hc, hp, st_succ]
  cases ps k
  · exact congrFun hh j
  · rfl

/-- A trip's cell state is the recurrence's next one. -/
theorem cell_trip : (fun j => keep p (newC (gates Wi Wh bias x h) c) c (ix2 n j)) = (st wi wh bs h0 c0 xs ps (k + 1)).2 := by
  funext j
  rw [keep_apply, newC_gates, hwi, hwh, hb, hx, hh, hc, hp, st_succ]
  cases ps k
  · exact congrFun hc j
  · rfl

/-- A trip's output is the recurrence's. -/
theorem out_trip : (fun j => keep p (newH (gates Wi Wh bias x h) c) zeros (ix2 n j)) = out wi wh bs h0 c0 xs ps k := by
  funext j
  rw [keep_apply, newH_gates, hwi, hwh, hb, hx, hh, hc, hp, zeros_apply]
  unfold out
  cases ps k
  · rfl
  · rfl

end Trip

/-- After a trip its own plane holds its output, and the planes before it what they held. -/
theorem emitted {Y : FVec Ideal S20x8192x64 .f32} {i : IVec S_ 32} {o : FVec Ideal S8192x64 .f32} {n : Fin 8192} {t : Fin 20}
    {v : ℕ → Fin 64 → EReal} (k : Fin 20) (hi : (i ix0).toInt = k.val) (hY : t.val < k.val → (fun j => Y (ix3 t n j)) = v t.val)
    (ho : (fun j => o (ix2 n j)) = v k.val) (ht : t.val < k.val + 1) : (fun j => emit Y i o (ix3 t n j)) = v t.val := by
  funext j
  rw [emit_apply _ _ k hi]
  by_cases h : t = k
  · rw [if_pos h, h]
    exact congrFun ho j
  · rw [if_neg h]
    exact congrFun (hY (by have := fun e => h (Fin.ext e); omega)) j

/-! ## The loop -/

/-- The number of word `w` of batch `b`. -/
def num (b : Fin 16) (w : Fin 512) : Fin 8192 := ⟨512 * b.val + w.val, by omega⟩

/-- The forward states of a word before step `k`. -/
def stateF (A : Args) (b : Fin 16) (w : Fin 512) (k : ℕ) : (Fin 64 → EReal) × (Fin 64 → EReal) :=
  st A.model.Wif A.model.Whf A.model.bf A.model.h0f A.model.c0f (fun i => A.model.emb (A.char b w i)) (has (A.len b w)) k

/-- The reverse states of a word before step `k`. -/
def stateR (A : Args) (b : Fin 16) (w : Fin 512) (k : ℕ) : (Fin 64 → EReal) × (Fin 64 → EReal) :=
  stR A.model (A.char b w) (A.len b w) k

/-- What the loop's buffers hold before trip `k`. -/
structure Held (A : Args) (k : ℕ) (W : Valuation τ sig (Elt Ideal)) : Prop where
  inF : W (Proc.devRef .tc main_v35_0) = planes A.chars A.emb
  maF : W (Proc.devRef .tc main_v35_1) = masks A.lens
  inR : W (Proc.devRef .tc main_v35_2) = Host.reverse [0] (planes A.chars A.emb)
  maR : W (Proc.devRef .tc main_v35_3) = Host.reverse [0] (masks A.lens)
  wiF : W (Proc.devRef .tc main_v35_4) = A.Wif
  whF : W (Proc.devRef .tc main_v35_5) = A.Whf
  biF : W (Proc.devRef .tc main_v35_6) = addf A.b1f A.b2f
  wiR : W (Proc.devRef .tc main_v35_7) = A.Wir
  whR : W (Proc.devRef .tc main_v35_8) = A.Whr
  biR : W (Proc.devRef .tc main_v35_9) = addf A.b1r A.b2r
  trip : W (Proc.devRef .tc main_v35_10) = fun _ => BitVec.ofNat 32 k
  hiF : ∀ b w, (fun j => (W (Proc.devRef .tc main_v35_11) : FVec Ideal S8192x64 .f32) (ix2 (num b w) j)) = (stateF A b w k).1
  ceF : ∀ b w, (fun j => (W (Proc.devRef .tc main_v35_12) : FVec Ideal S8192x64 .f32) (ix2 (num b w) j)) = (stateF A b w k).2
  hiR : ∀ b w, (fun j => (W (Proc.devRef .tc main_v35_13) : FVec Ideal S8192x64 .f32) (ix2 (num b w) j)) = (stateR A b w k).1
  ceR : ∀ b w, (fun j => (W (Proc.devRef .tc main_v35_14) : FVec Ideal S8192x64 .f32) (ix2 (num b w) j)) = (stateR A b w k).2
  ouF : ∀ b w (t : Fin 20), t.val < k → (fun j => (W (Proc.devRef .tc main_v35_15) : FVec Ideal S20x8192x64 .f32) (ix3 t (num b w) j))
    = wordF A.model (A.char b w) (A.len b w) t.val
  ouR : ∀ b w (t : Fin 20), t.val < k → (fun j => (W (Proc.devRef .tc main_v35_16) : FVec Ideal S20x8192x64 .f32) (ix3 t (num b w) j))
    = outR A.model (A.char b w) (A.len b w) t.val

section
variable {A : Args} {W : Valuation τ sig (Elt Ideal)} {k : ℕ} (hA : A.InVocabulary) (hk : k < 20) (H : Held A k W)
include H

theorem Held.trip_toInt (h : k < 20) : ((W (Proc.devRef .tc main_v35_10) : IVec S_ 32) ix0).toInt = (⟨k, h⟩ : Fin 20).val := by
  rw [H.trip]
  show (BitVec.ofNat 32 k).toInt = k
  rw [BitVec.toInt_eq_toNat_of_lt (by rw [BitVec.toNat_ofNat]; omega), BitVec.toNat_ofNat, Nat.mod_eq_of_lt (by omega)]

include hk

/-- The forward inputs of a trip. -/
theorem Held.inputsF (hA : A.InVocabulary) (b : Fin 16) (w : Fin 512) :
    (fun j => inputs (W (Proc.devRef .tc main_v35_0)) (W (Proc.devRef .tc main_v35_10)) (ix2 (num b w) j)) = A.model.emb (A.char b w k) := by
  funext j
  rw [inputs_apply _ _ ⟨k, hk⟩ (H.trip_toInt hk), H.inF]
  exact planes_apply b w ⟨k, hk⟩ A hA j

/-- The forward mask of a trip. -/
theorem Held.mask_forward (b : Fin 16) (w : Fin 512) : maskF W (ix2 (num b w) 0) = BitVec.ofBool (has (A.len b w) k) := by
  unfold maskF
  rw [mask_apply _ _ ⟨k, hk⟩ (H.trip_toInt hk), H.maF]
  exact masks_apply b w ⟨k, hk⟩ A

/-- The reverse inputs of a trip. -/
theorem Held.inputsR (hA : A.InVocabulary) (b : Fin 16) (w : Fin 512) :
    (fun j => inputs (W (Proc.devRef .tc main_v35_2)) (W (Proc.devRef .tc main_v35_10)) (ix2 (num b w) j)) = A.model.emb (A.char b w (19 - k)) := by
  funext j
  rw [inputs_apply _ _ ⟨k, hk⟩ (H.trip_toInt hk), H.inR]
  refine Eq.trans ?_ (planes_apply b w ⟨19 - k, by omega⟩ A hA j)
  pointwise
  have e : (⟨k, hk⟩ : Fin 20).rev = ⟨19 - k, by omega⟩ := Fin.ext (by show 20 - (k + 1) = 19 - k; omega)
  show planes A.chars A.emb (ix3 (⟨k, hk⟩ : Fin 20).rev (num b w) j) = _
  rw [e]
  rfl

/-- The reverse mask of a trip. -/
theorem Held.mask_reverse (b : Fin 16) (w : Fin 512) : maskR W (ix2 (num b w) 0) = BitVec.ofBool (has (A.len b w) (19 - k)) := by
  unfold maskR
  rw [mask_apply _ _ ⟨k, hk⟩ (H.trip_toInt hk), H.maR]
  refine Eq.trans ?_ (masks_apply b w ⟨19 - k, by omega⟩ A)
  pointwise
  have e : (⟨k, hk⟩ : Fin 20).rev = ⟨19 - k, by omega⟩ := Fin.ext (by show 20 - (k + 1) = 19 - k; omega)
  show masks A.lens (ix3 (⟨k, hk⟩ : Fin 20).rev (num b w) 0) = _
  rw [e]
  rfl

omit hk

theorem Held.wiF' : (fun g k => (W (Proc.devRef .tc main_v35_4) : FVec Ideal S256x64 .f32) (ix2 g k)) = A.model.Wif := by
  rw [H.wiF]
  rfl

theorem Held.whF' : (fun g k => (W (Proc.devRef .tc main_v35_5) : FVec Ideal S256x64 .f32) (ix2 g k)) = A.model.Whf := by
  rw [H.whF]
  rfl

theorem Held.biF' : (fun g => (W (Proc.devRef .tc main_v35_6) : FVec Ideal S256 .f32) (ix1 g)) = A.model.bf := by
  rw [H.biF]
  rfl

theorem Held.wiR' : (fun g k => (W (Proc.devRef .tc main_v35_7) : FVec Ideal S256x64 .f32) (ix2 g k)) = A.model.Wir := by
  rw [H.wiR]
  rfl

theorem Held.whR' : (fun g k => (W (Proc.devRef .tc main_v35_8) : FVec Ideal S256x64 .f32) (ix2 g k)) = A.model.Whr := by
  rw [H.whR]
  rfl

theorem Held.biR' : (fun g => (W (Proc.devRef .tc main_v35_9) : FVec Ideal S256 .f32) (ix1 g)) = A.model.br := by
  rw [H.biR]
  rfl

include hk

/-- A trip carries the loop's contents one step further. -/
theorem Held.step (hA : A.InVocabulary) : Held A (k + 1) (STEP W) where
  inF := (STEP_main_v35_0 W).trans H.inF
  maF := (STEP_main_v35_1 W).trans H.maF
  inR := (STEP_main_v35_2 W).trans H.inR
  maR := (STEP_main_v35_3 W).trans H.maR
  wiF := (STEP_main_v35_4 W).trans H.wiF
  whF := (STEP_main_v35_5 W).trans H.whF
  biF := (STEP_main_v35_6 W).trans H.biF
  wiR := (STEP_main_v35_7 W).trans H.wiR
  whR := (STEP_main_v35_8 W).trans H.whR
  biR := (STEP_main_v35_9 W).trans H.biR
  trip := by
    refine (STEP_main_v35_10 W).trans ?_
    show addi (W (Proc.devRef .tc main_v35_10)) (constantI S_ 32 1#32) = _
    rw [H.trip]
    funext i
    exact (BitVec.ofNat_add k 1).symm
  hiF b w := by
    rw [STEP_main_v35_11, step_11]
    exact hidden_trip H.wiF' H.whF' H.biF' (H.inputsF hk hA b w) (H.mask_forward hk b w) (H.hiF b w) (H.ceF b w)
  ceF b w := by
    rw [STEP_main_v35_12, step_12]
    exact cell_trip H.wiF' H.whF' H.biF' (H.inputsF hk hA b w) (H.mask_forward hk b w) (H.hiF b w) (H.ceF b w)
  hiR b w := by
    rw [STEP_main_v35_13, step_13]
    exact hidden_trip H.wiR' H.whR' H.biR' (H.inputsR hk hA b w) (H.mask_reverse hk b w) (H.hiR b w) (H.ceR b w)
  ceR b w := by
    rw [STEP_main_v35_14, step_14]
    exact cell_trip H.wiR' H.whR' H.biR' (H.inputsR hk hA b w) (H.mask_reverse hk b w) (H.hiR b w) (H.ceR b w)
  ouF b w t ht := by
    rw [STEP_main_v35_15, step_15]
    exact emitted ⟨k, hk⟩ (H.trip_toInt hk) (fun h => H.ouF b w t h)
      (out_trip H.wiF' H.whF' H.biF' (H.inputsF hk hA b w) (H.mask_forward hk b w) (H.hiF b w) (H.ceF b w)) ht
  ouR b w t ht := by
    rw [STEP_main_v35_16, step_16]
    exact emitted ⟨k, hk⟩ (H.trip_toInt hk) (fun h => H.ouR b w t h)
      (out_trip H.wiR' H.whR' H.biR' (H.inputsR hk hA b w) (H.mask_reverse hk b w) (H.hiR b w) (H.ceR b w)) ht

end

end Cert.ReferenceIdeal.Step

end
-- ==== Proof.RefValue.lean ====
module

public import proofs.«01_k».proof.Proof.RefHeld

@[expose] public section

set_option maxRecDepth 16384

/-!
The reference's result on extended reals is the words' values.
-/

noncomputable section

namespace Cert.ReferenceIdeal.Step

open Idealize.ShloMosaic Idealize.ShloMosaic.TcCoe Idealize.ShloMosaic.Tactic Idealize.SL Idealize.SL.Sem
open Idealize.ShloMosaic.StableHlo
open Cert.ReferenceIdeal Cert.ReferenceIdeal.Gen Cert.ReferenceIdeal.Value Cert.Spec

/-! ## The gated sum -/

/-- Both directions' outputs side by side, the reverse ones put back in the characters' order. -/
def both (Y Z : FVec Ideal S20x8192x64 .f32) : FVec Ideal S20x8192x128 .f32 :=
  concatenate S20x8192x128 2 [⟨S20x8192x64, Y⟩, ⟨S20x8192x64, Host.reverse [0] Z⟩] concatenates_S20x8192x64_S20x8192x64_S20x8192x128_d2

/-- The gates: the logistic of the outputs' products with the attention's weights. -/
def attend (X : FVec Ideal S20x8192x128 .f32) (P : FVec Ideal S1x128 .f32) : FVec Ideal S20x8192x1 .f32 :=
  Host.divf (broadcastInDim S20x8192x1 ![] bcast_S_S20x8192x1 (constant S_ .f32 0x3F800000#32))
    (addf (broadcastInDim S20x8192x1 ![] bcast_S_S20x8192x1 (constant S_ .f32 0x3F800000#32))
      (Host.exp (Host.negf (Host.dotGeneral dot_S20x8192x128_S128x1_S20x8192x1_2_0_01_1_n_n none X (transpose S128x1 [1, 0] P transposes_S1x128_S128x1_1_0)))))

/-- The gated outputs summed over the characters. -/
def gated (X : FVec Ideal S20x8192x128 .f32) (P : FVec Ideal S1x128 .f32) : FVec Ideal S8192x128 .f32 :=
  Host.reduceAdd (mulf (broadcastInDim S20x8192x128 ![0, 1, 2] bcast_S20x8192x1_S20x8192x128_0_1_2 (attend X P)) X)
    (constant S_ .f32 0x00000000#32) reducesTo_S20x8192x128_S8192x128_d0 h_S_

theorem both_forward (Y Z : FVec Ideal S20x8192x64 .f32) (t : Fin 20) (n : Fin 8192) (j : Fin 64) :
    both Y Z (ix3 t n (lane 0 j)) = Y (ix3 t n j) := by
  pointwise [both, lane]

theorem both_reverse (Y Z : FVec Ideal S20x8192x64 .f32) (t : Fin 20) (n : Fin 8192) (j : Fin 64) :
    both Y Z (ix3 t n (lane 1 j)) = Z (ix3 t.rev n j) := by
  pointwise [both, lane]
  rfl

theorem attend_apply (X : FVec Ideal S20x8192x128 .f32) (P : FVec Ideal S1x128 .f32) (t : Fin 20) (n : Fin 8192) :
    attend X P (ix3 t n 0) = Ideal.logistic (∑ k, X (ix3 t n k) * P (ix2 0 k)) := by
  pointwise [attend]
  rfl

theorem gated_apply (X : FVec Ideal S20x8192x128 .f32) (P : FVec Ideal S1x128 .f32) (n : Fin 8192) (l : Fin 128) :
    gated X P (ix2 n l) = ∑ t : Fin 20, attend X P (ix3 t n 0) * X (ix3 t n l) := by
  pointwise [gated]

/-! ## The start -/

/-- A direction's starting state, the same for every word. -/
def startF (X : FVec Ideal S2x1x64 .f32) : FVec Ideal S8192x64 .f32 :=
  broadcastInDim S8192x64 ![1] bcast_S64_S8192x64_1
    (shapeCast S64 (extractStridedSlice S1x1x64 ![0, 0, 0] X slices_S2x1x64_S1x1x64_0_0_0) shapeCasts_S1x1x64_S64)

/-- The reverse direction's starting state, the same for every word. -/
def startR (X : FVec Ideal S2x1x64 .f32) : FVec Ideal S8192x64 .f32 :=
  broadcastInDim S8192x64 ![1] bcast_S64_S8192x64_1
    (shapeCast S64 (extractStridedSlice S1x1x64 ![1, 0, 0] X slices_S2x1x64_S1x1x64_1_0_0) shapeCasts_S1x1x64_S64)

theorem startF_apply (X : FVec Ideal S2x1x64 .f32) (n : Fin 8192) (j : Fin 64) : startF X (ix2 n j) = X (ix3 0 0 j) := by
  pointwise [startF]

theorem startR_apply (X : FVec Ideal S2x1x64 .f32) (n : Fin 8192) (j : Fin 64) : startR X (ix2 n j) = X (ix3 1 0 j) := by
  pointwise [startR]

variable (m : (ℓ : Loc nD τ sig) → Buf (Elt Ideal) ℓ)

/-- The arguments. -/
def args (c : Dev nD) : Args where
  chars := m ((c : Thread nD τ).loc main_arg0)
  lens := m ((c : Thread nD τ).loc main_arg1)
  emb := m ((c : Thread nD τ).loc main_arg2)
  Wif := m ((c : Thread nD τ).loc main_arg3)
  Whf := m ((c : Thread nD τ).loc main_arg4)
  b1f := m ((c : Thread nD τ).loc main_arg5)
  b2f := m ((c : Thread nD τ).loc main_arg6)
  Wir := m ((c : Thread nD τ).loc main_arg7)
  Whr := m ((c : Thread nD τ).loc main_arg8)
  b1r := m ((c : Thread nD τ).loc main_arg9)
  b2r := m ((c : Thread nD τ).loc main_arg10)
  h0 := m ((c : Thread nD τ).loc main_arg11)
  c0 := m ((c : Thread nD τ).loc main_arg12)
  attn := m ((c : Thread nD τ).loc main_arg13)

variable (c : Dev nD)

/-- What the loop starts from. -/
theorem held_entry : Held (args m c) 0 (entryContents preI m c) where
  inF := by
    simp only [entryContents, afterL_cons, afterL_nil]
    after_reads_simp
    rfl
  maF := by
    simp only [entryContents, afterL_cons, afterL_nil]
    after_reads_simp
    rfl
  inR := by
    simp only [entryContents, afterL_cons, afterL_nil]
    after_reads_simp
    rfl
  maR := by
    simp only [entryContents, afterL_cons, afterL_nil]
    after_reads_simp
    rfl
  wiF := by
    simp only [entryContents, afterL_cons, afterL_nil]
    after_reads_simp
    rfl
  whF := by
    simp only [entryContents, afterL_cons, afterL_nil]
    after_reads_simp
    rfl
  biF := by
    simp only [entryContents, afterL_cons, afterL_nil]
    after_reads_simp
    rfl
  wiR := by
    simp only [entryContents, afterL_cons, afterL_nil]
    after_reads_simp
    rfl
  whR := by
    simp only [entryContents, afterL_cons, afterL_nil]
    after_reads_simp
    rfl
  biR := by
    simp only [entryContents, afterL_cons, afterL_nil]
    after_reads_simp
    rfl
  trip := ctr_entry m c
  hiF b w := by
    have e : entryContents preI m c (Proc.devRef .tc main_v35_11) = startF (args m c).h0 := by
      simp only [entryContents, afterL_cons, afterL_nil]
      after_reads_simp
      rfl
    rw [e]
    exact funext fun j => startF_apply _ _ j
  ceF b w := by
    have e : entryContents preI m c (Proc.devRef .tc main_v35_12) = startF (args m c).c0 := by
      simp only [entryContents, afterL_cons, afterL_nil]
      after_reads_simp
      rfl
    rw [e]
    exact funext fun j => startF_apply _ _ j
  hiR b w := by
    have e : entryContents preI m c (Proc.devRef .tc main_v35_13) = startR (args m c).h0 := by
      simp only [entryContents, afterL_cons, afterL_nil]
      after_reads_simp
      rfl
    rw [e]
    exact funext fun j => startR_apply _ _ j
  ceR b w := by
    have e : entryContents preI m c (Proc.devRef .tc main_v35_14) = startR (args m c).c0 := by
      simp only [entryContents, afterL_cons, afterL_nil]
      after_reads_simp
      rfl
    rw [e]
    exact funext fun j => startR_apply _ _ j
  ouF _ _ _ h := absurd h (Nat.not_lt_zero _)
  ouR _ _ _ h := absurd h (Nat.not_lt_zero _)

/-- What the loop's buffers hold after `k` trips. -/
theorem held (hA : (args m c).InVocabulary) : ∀ k, k ≤ 20 → Held (args m c) k (STEP^[k] (entryContents preI m c))
  | 0, _ => held_entry m c
  | k + 1, h => by
    rw [Function.iterate_succ_apply']
    exact (held hA k (by omega)).step (by omega) hA

/-- The reference's result is the words' values. -/
theorem result_eq (hA : (args m c).InVocabulary) : out_main_v48 (STEP^[20] (entryContents preI m c)) = (args m c).output := by
  have H := held m c hA 20 le_rfl
  have hp := iter_main_arg13 m c 20
  generalize STEP^[20] (entryContents preI m c) = W at H hp ⊢
  have e : out_main_v48 W = gated (both (W (Proc.devRef .tc main_v35_15)) (W (Proc.devRef .tc main_v35_16))) (W (Proc.devRef .tc main_arg13)) := rfl
  rw [e, hp]
  have hf := H.ouF
  have hr := H.ouR
  generalize (W (Proc.devRef .tc main_v35_15) : FVec Ideal S20x8192x64 .f32) = Y at hf ⊢
  generalize (W (Proc.devRef .tc main_v35_16) : FVec Ideal S20x8192x64 .f32) = Z at hr ⊢
  have hF : ∀ b w (t : Fin 20) j, both Y Z (ix3 t (num b w) (lane 0 j)) = wordF (args m c).model ((args m c).char b w) ((args m c).len b w) t.val j :=
    fun b w t j => (both_forward Y Z t _ j).trans (congrFun (hf b w t t.isLt) j)
  have hR : ∀ b w (t : Fin 20) j, both Y Z (ix3 t (num b w) (lane 1 j)) = wordR (args m c).model ((args m c).char b w) ((args m c).len b w) t.val j := by
    intro b w t j
    refine (both_reverse Y Z t _ j).trans ((congrFun (hr b w t.rev t.rev.isLt) j).trans ?_)
    have ht : t.rev.val = 19 - t.val := by rw [Fin.val_rev]; omega
    unfold wordR
    rw [ht]
  have ha : ∀ b w (t : Fin 20), attend (both Y Z) (args m c).attn (ix3 t (num b w) 0)
      = att (args m c).model.af (args m c).model.ar (wordF (args m c).model ((args m c).char b w) ((args m c).len b w) t.val)
        (wordR (args m c).model ((args m c).char b w) ((args m c).len b w) t.val) := by
    intro b w t
    rw [attend_apply, sum_lanes]
    simp only [hF, hR]
    rfl
  funext i
  obtain ⟨b, w, d, j, rfl⟩ := Args.exists_index i
  rw [Args.output_apply]
  refine (gated_apply (both Y Z) (args m c).attn (num b w) (lane d j)).trans ?_
  unfold Args.value word result
  rw [Finset.sum_range]
  refine Finset.sum_congr rfl fun t _ => ?_
  rw [ha]
  congr 1
  match d with
  | 0 => exact hF b w t j
  | 1 => exact hR b w t j

end Cert.ReferenceIdeal.Step

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.KResult
public import proofs.«01_k».proof.Proof.RefValue
public import Idealize.ShloMosaic.Adequacy
public import Idealize.ShloMosaic.Init

@[expose] public section

noncomputable section

namespace Cert.Proof

open Idealize.ShloMosaic Idealize.ShloMosaic.TcCoe Idealize.ShloMosaic.Tactic Idealize.SL.Sem
open Cert.Spec

/-- The precondition's one side condition: a number broadcasts to the indices' shape. -/
theorem preFacts : Cert.Pre_indices_in_vocabulary.Facts where
  bcast_S_S16x512x20 := by decide

/-! ## The frames -/

/-- The kernel runs to its end, leaves its arguments unchanged and its counters at zero. -/
theorem frame_kernel [Cert.Kernel.Facts] : Cert.quiescent_Kernel := fun m ρ _ => Cert.Kernel.Gen.frame m ρ

/-- The idealized kernel runs to its end, leaves its arguments unchanged and its counters at zero. -/
theorem frame_kernelIdeal [Cert.KernelIdeal.Facts] : Cert.quiescent_KernelIdeal := fun m ρ _ => Cert.KernelIdeal.Gen.frame m ρ

/-- The same from memories whose indices lie in the vocabulary. -/
theorem frame_kernelIdeal_pre [Cert.KernelIdeal.Facts] [Cert.Pre_indices_in_vocabulary.Facts] :
    Cert.quiescent_KernelIdeal_pre_indices_in_vocabulary := fun m ρ _ => Cert.KernelIdeal.Gen.frame m ρ

/-- The reference runs to its end and leaves its arguments unchanged; it declares no counter. -/
theorem frame_referenceIdeal [Cert.ReferenceIdeal.Facts] : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The same from memories whose indices lie in the vocabulary. -/
theorem frame_referenceIdeal_pre [Cert.ReferenceIdeal.Facts] [Cert.Pre_indices_in_vocabulary.Facts] :
    Cert.quiescent_ReferenceIdeal_pre_indices_in_vocabulary := fun m ρ _ => frame_referenceIdeal m ρ trivial

/-! ## The values -/

/-- The precondition says that every index lies in the vocabulary. -/
theorem inVocabulary [Cert.Pre_indices_in_vocabulary.Facts]
    (m : (ℓ : Loc Cert.KernelIdeal.nD Cert.KernelIdeal.τ Cert.KernelIdeal.sig) → Buf (Elt Ideal) ℓ)
    (h : Cert.Pre_KernelIdeal_indices_in_vocabulary m) (c : Dev Cert.KernelIdeal.nD) :
    (Cert.KernelIdeal.Host.args m c).InVocabulary := by
  intro i
  have e : ∀ x : BitVec 32, IntOp.andi (BitVec.ofBool ((0#32).sle x)) (BitVec.ofBool (x.slt 262#32)) = 1 → 0 ≤ x.toInt ∧ x.toInt < 262 := by
    intro x hx
    have h1 : (0#32).sle x = true := by
      cases h' : (0#32).sle x
      · rw [h'] at hx
        cases h'' : x.slt 262#32 <;> rw [h''] at hx <;> exact absurd hx (by decide)
      · rfl
    have h2 : x.slt 262#32 = true := by
      cases h' : x.slt 262#32
      · rw [h', h1] at hx
        exact absurd hx (by decide)
      · rfl
    rw [BitVec.sle_eq_decide, decide_eq_true_iff] at h1
    rw [BitVec.slt_eq_decide, decide_eq_true_iff] at h2
    exact ⟨h1, h2⟩
  exact e _ (congrFun (h c) i)

/-- On extended reals the kernel and the reference end with equal results: from equal arguments whose indices lie in the vocabulary,
    both leave every word's value. -/
theorem algebraic [Cert.Pre_indices_in_vocabulary.Facts] :
    Cert.algebraic_KernelIdeal_ReferenceIdeal_pre_indices_in_vocabulary
      (hKernelIdeal := Cert.KernelIdeal.Gen.facts) (hReferenceIdeal := Cert.ReferenceIdeal.Gen.facts) := by
  intro m g m' g' hpre hagree
  have hA := inVocabulary m hpre
  have hargs : ∀ c : Dev Cert.KernelIdeal.nD, Cert.ReferenceIdeal.Step.args m' c = Cert.KernelIdeal.Host.args m c := by
    intro c
    obtain ⟨h0, h1, h2, h3, h4, h5, h6, h7, h8, h9, h10, h11, h12, h13⟩ := hagree c
    unfold Cert.ReferenceIdeal.Step.args Cert.KernelIdeal.Host.args
    congr 1
  refine ⟨fun c => (Cert.KernelIdeal.Host.args m c).output, ?_, ?_⟩
  · exact (θ_run Cert.KernelIdeal.defs _ _).mono
      (fun r h c => ⟨(h c).1.trans (Cert.KernelIdeal.Host.result_eq m c (hA c)), (h c).2⟩)
      (Cert.KernelIdeal.Value.run_blocks (F := Ideal) m g)
  · refine (θ_run Cert.ReferenceIdeal.defs _ _).mono (fun r h c => ⟨(h c).1.trans ?_, (h c).2⟩)
      (Cert.ReferenceIdeal.Value.run (F := Ideal) m' g')
    rw [Cert.ReferenceIdeal.Step.result_eq m' c (by rw [hargs c]; exact hA c), hargs c]

/-- The certificate: the frames, that the idealized kernel is the kernel, and that its result is the reference's. -/
theorem claim : Cert.Claim := ⟨Cert.Kernel.Gen.facts, Cert.KernelIdeal.Gen.facts, Cert.ReferenceIdeal.Gen.facts, preFacts,
  frame_kernel, frame_kernelIdeal, @frame_kernelIdeal_pre _ preFacts, frame_referenceIdeal, @frame_referenceIdeal_pre _ preFacts, trivial,
  @algebraic preFacts⟩

end Cert.Proof

end
